-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights_causal_masks [hPre_finite_weights_causal_masks : Cert.Pre_finite_weights_causal_masks.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights_causal_masks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_finite_weights_causal_masks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_finite_weights_causal_masks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_finite_weights_causal_masks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_finite_weights_causal_masks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_finite_weights_causal_masks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_finite_weights_causal_masks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.1 = (fun _ => 1#1)
    ∧ (Cert.Pre_finite_weights_causal_masks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.1 = (fun _ => 1#1)
    ∧ (Cert.Pre_finite_weights_causal_masks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights_causal_masks [hPre_finite_weights_causal_masks : Cert.Pre_finite_weights_causal_masks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights_causal_masks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_finite_weights_causal_masks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_finite_weights_causal_masks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_finite_weights_causal_masks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_finite_weights_causal_masks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_finite_weights_causal_masks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_finite_weights_causal_masks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.1 = (fun _ => 1#1)
    ∧ (Cert.Pre_finite_weights_causal_masks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.1 = (fun _ => 1#1)
    ∧ (Cert.Pre_finite_weights_causal_masks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite_weights_causal_masks [hKernelIdeal : Cert.KernelIdeal.Facts] [hPre_finite_weights_causal_masks : Cert.Pre_finite_weights_causal_masks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights_causal_masks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite_weights_causal_masks [hReferenceIdeal : Cert.ReferenceIdeal.Facts] [hPre_finite_weights_causal_masks : Cert.Pre_finite_weights_causal_masks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights_causal_masks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "unmask" .f32 0x4E6E6B28#32 ⊤
  ∧ IdealRules.named_const.Statement Cert.KernelIdeal.κ "mask" .f32 0xCE6E6B28#32 ⊥

def algebraic_KernelIdeal_ReferenceIdeal_pre_finite_weights_causal_masks [hKernelIdeal : Cert.KernelIdeal.Facts] [hReferenceIdeal : Cert.ReferenceIdeal.Facts] [hPre_finite_weights_causal_masks : Cert.Pre_finite_weights_causal_masks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights_causal_masks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_weights_causal_masks : Cert.Pre_finite_weights_causal_masks.Facts),
    quiescent_Kernel (hKernel := hKernel)
    ∧ quiescent_KernelIdeal (hKernelIdeal := hKernelIdeal)
    ∧ quiescent_KernelIdeal_pre_finite_weights_causal_masks (hKernelIdeal := hKernelIdeal) (hPre_finite_weights_causal_masks := hPre_finite_weights_causal_masks)
    ∧ quiescent_ReferenceIdeal (hReferenceIdeal := hReferenceIdeal)
    ∧ quiescent_ReferenceIdeal_pre_finite_weights_causal_masks (hReferenceIdeal := hReferenceIdeal) (hPre_finite_weights_causal_masks := hPre_finite_weights_causal_masks)
    ∧ preserves_Kernel_KernelIdeal
    ∧ algebraic_KernelIdeal_ReferenceIdeal_pre_finite_weights_causal_masks (hKernelIdeal := hKernelIdeal) (hReferenceIdeal := hReferenceIdeal) (hPre_finite_weights_causal_masks := hPre_finite_weights_causal_masks)
-- ==== Pre_finite_weights_causal_masks.lean ====
abbrev S1x2048x768 : Shape := ⟨3, ![1, 2048, 768]⟩
abbrev S2 : Shape := ⟨1, ![2]⟩
abbrev S768x768 : Shape := ⟨2, ![768, 768]⟩
abbrev S4x64 : Shape := ⟨2, ![4, 64]⟩
abbrev S256x64 : Shape := ⟨2, ![256, 64]⟩
abbrev S768x36 : Shape := ⟨2, ![768, 36]⟩
abbrev S768x3072 : Shape := ⟨2, ![768, 3072]⟩
abbrev S3072x768 : Shape := ⟨2, ![3072, 768]⟩
abbrev S2048x2048 : Shape := ⟨2, ![2048, 2048]⟩
abbrev S2048 : Shape := ⟨1, ![2048]⟩
abbrev S2048x1 : Shape := ⟨2, ![2048, 1]⟩
abbrev S1x2048 : Shape := ⟨2, ![1, 2048]⟩
abbrev S_ : Shape := ⟨0, ![]⟩

class Facts : Prop where
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  bcast_S_S768x768 : S_.BroadcastsInDim S768x768 (![] : Fin 0 → Fin S768x768.rank)
  bcast_S_S4x64 : S_.BroadcastsInDim S4x64 (![] : Fin 0 → Fin S4x64.rank)
  bcast_S_S256x64 : S_.BroadcastsInDim S256x64 (![] : Fin 0 → Fin S256x64.rank)
  reducesTo_S2048x2048_S2048_d1 : S2048x2048.ReducesTo [1] S2048
  h_S_ : 0 < S_.numel

variable [Facts]

def fn_part1 {F : FTy → Type} [FloatOps F] (main_arg9 : FVec F S4x64 .f32) (main_arg10 : FVec F S256x64 .f32) (main_arg11 : FVec F S256x64 .f32) (main_arg15 : IVec S2048x2048 1) (main_arg16 : IVec S2048x2048 1) (main_v6 : IVec S2048x2048 1) (main_v12 : IVec S2048x2048 1) (main_v15 : IVec S768x768 1) (main_v18 : IVec S768x768 1) (main_v19 : FVec F S4x64 .f32) (main_cst_1 : FVec F S_ .f32) : IVec S768x768 1 × IVec S768x768 1 × IVec S4x64 1 × IVec S4x64 1 × IVec S256x64 1 × IVec S256x64 1 × IVec S2048x2048 1 × IVec S2048x2048 1 × IVec S2048 1 :=
  let main_v20 : FVec F S4x64 .f32 := broadcastInDim S4x64 ![] bcast_S_S4x64 main_cst_1
  let main_v21 : IVec S4x64 1 := cmpf .olt main_v19 main_v20
  let main_v22 : FVec F S4x64 .f32 := Host.absf main_arg9
  let main_cst_2 : FVec F S_ .f32 := constant S_ .f32 0x7F800000#32
  let main_v23 : FVec F S4x64 .f32 := broadcastInDim S4x64 ![] bcast_S_S4x64 main_cst_2
  let main_v24 : IVec S4x64 1 := cmpf .olt main_v22 main_v23
  let main_v25 : FVec F S256x64 .f32 := Host.absf main_arg10
  let main_cst_3 : FVec F S_ .f32 := constant S_ .f32 0x7F800000#32
  let main_v26 : FVec F S256x64 .f32 := broadcastInDim S256x64 ![] bcast_S_S256x64 main_cst_3
  let main_v27 : IVec S256x64 1 := cmpf .olt main_v25 main_v26
  let main_v28 : FVec F S256x64 .f32 := Host.absf main_arg11
  let main_cst_4 : FVec F S_ .f32 := constant S_ .f32 0x7F800000#32
  let main_v29 : FVec F S256x64 .f32 := broadcastInDim S256x64 ![] bcast_S_S256x64 main_cst_4
  let main_v30 : IVec S256x64 1 := cmpf .olt main_v28 main_v29
  let main_v31 : IVec S2048x2048 1 := cmpi .eq main_arg15 main_v12
  let main_v32 : IVec S2048x2048 1 := noti main_arg16
  let main_v33 : IVec S2048x2048 1 := ori main_v32 main_v6
  let main_c_5 : IVec S_ 1 := constantI S_ 1 0#1
  let main_v34 : IVec S2048 1 := (fun x v => Host.reduce IntOp.ori x v reducesTo_S2048x2048_S2048_d1 h_S_) main_arg16 main_c_5
  (main_v15, main_v18, main_v21, main_v24, main_v27, main_v30, main_v31, main_v33, main_v34)

def fn {F : FTy → Type} [FloatOps F] (main_arg0 : FVec F S1x2048x768 .f32) (main_arg1 : FVec F S1x2048x768 .f32) (main_arg2 : FVec F S1x2048x768 .f32) (main_arg3 : FVec F S2 .f32) (main_arg4 : FVec F S768x768 .f32) (main_arg5 : FVec F S768x768 .f32) (main_arg6 : FVec F S768x768 .f32) (main_arg7 : FVec F S768x768 .f32) (main_arg8 : FVec F S4x64 .f32) (main_arg9 : FVec F S4x64 .f32) (main_arg10 : FVec F S256x64 .f32) (main_arg11 : FVec F S256x64 .f32) (main_arg12 : FVec F S768x36 .f32) (main_arg13 : FVec F S768x3072 .f32) (main_arg14 : FVec F S3072x768 .f32) (main_arg15 : IVec S2048x2048 1) (main_arg16 : IVec S2048x2048 1) : IVec S768x768 1 × IVec S768x768 1 × IVec S4x64 1 × IVec S4x64 1 × IVec S256x64 1 × IVec S256x64 1 × IVec S2048x2048 1 × IVec S2048x2048 1 × IVec S2048 1 :=
  let main_v0 : IVec S2048 32 := iotaInDim S2048 32 0
  let main_v1 : IVec S2048x1 32 := broadcastInDim S2048x1 ![0] bcast_S2048_S2048x1_0 main_v0
  let main_v2 : IVec S2048 32 := iotaInDim S2048 32 0
  let main_v3 : IVec S1x2048 32 := broadcastInDim S1x2048 ![1] bcast_S2048_S1x2048_1 main_v2
  let main_v4 : IVec S2048x2048 32 := broadcastInDim S2048x2048 ![0, 1] bcast_S1x2048_S2048x2048_0_1 main_v3
  let main_v5 : IVec S2048x2048 32 := broadcastInDim S2048x2048 ![0, 1] bcast_S2048x1_S2048x2048_0_1 main_v1
  let main_v6 : IVec S2048x2048 1 := cmpi .sle main_v4 main_v5
  let main_v7 : IVec S2048x2048 32 := broadcastInDim S2048x2048 ![0, 1] bcast_S2048x1_S2048x2048_0_1 main_v1
  let main_v8 : IVec S2048x2048 32 := broadcastInDim S2048x2048 ![0, 1] bcast_S1x2048_S2048x2048_0_1 main_v3
  let main_v9 : IVec S2048x2048 32 := subi main_v7 main_v8
  let main_c : IVec S_ 32 := constantI S_ 32 32#32
  let main_v10 : IVec S2048x2048 32 := broadcastInDim S2048x2048 ![] bcast_S_S2048x2048 main_c
  let main_v11 : IVec S2048x2048 1 := cmpi .slt main_v9 main_v10
  let main_v12 : IVec S2048x2048 1 := andi main_v6 main_v11
  let main_v13 : FVec F S768x768 .f32 := Host.absf main_arg4
  let main_cst : FVec F S_ .f32 := constant S_ .f32 0x7F800000#32
  let main_v14 : FVec F S768x768 .f32 := broadcastInDim S768x768 ![] bcast_S_S768x768 main_cst
  let main_v15 : IVec S768x768 1 := cmpf .olt main_v13 main_v14
  let main_v16 : FVec F S768x768 .f32 := Host.absf main_arg5
  let main_cst_0 : FVec F S_ .f32 := constant S_ .f32 0x7F800000#32
  let main_v17 : FVec F S768x768 .f32 := broadcastInDim S768x768 ![] bcast_S_S768x768 main_cst_0
  let main_v18 : IVec S768x768 1 := cmpf .olt main_v16 main_v17
  let main_v19 : FVec F S4x64 .f32 := Host.absf main_arg8
  let main_cst_1 : FVec F S_ .f32 := constant S_ .f32 0x7F800000#32
  fn_part1 (F := F) main_arg9 main_arg10 main_arg11 main_arg15 main_arg16 main_v6 main_v12 main_v15 main_v18 main_v19 main_cst_1
-- ==== Kernel.lean ====
abbrev S1x2048x768 : Shape := ⟨3, ![1, 2048, 768]⟩
abbrev S2 : Shape := ⟨1, ![2]⟩
abbrev S768x768 : Shape := ⟨2, ![768, 768]⟩
abbrev S4x64 : Shape := ⟨2, ![4, 64]⟩
abbrev S256x64 : Shape := ⟨2, ![256, 64]⟩
abbrev S768x36 : Shape := ⟨2, ![768, 36]⟩
abbrev S768x3072 : Shape := ⟨2, ![768, 3072]⟩
abbrev S3072x768 : Shape := ⟨2, ![3072, 768]⟩
abbrev S2048x2048 : Shape := ⟨2, ![2048, 2048]⟩
abbrev S2048x768 : Shape := ⟨2, ![2048, 768]⟩
abbrev S_ : Shape := ⟨0, ![]⟩
abbrev S768x128 : Shape := ⟨2, ![768, 128]⟩
abbrev S768x2432 : Shape := ⟨2, ![768, 2432]⟩
abbrev S1x2 : Shape := ⟨2, ![1, 2]⟩
abbrev S12x2048x64 : Shape := ⟨3, ![12, 2048, 64]⟩
abbrev S12x2048x4 : Shape := ⟨3, ![12, 2048, 4]⟩
abbrev S256x768 : Shape := ⟨2, ![256, 768]⟩
abbrev S12x256x64 : Shape := ⟨3, ![12, 256, 64]⟩
abbrev S12x256x4 : Shape := ⟨3, ![12, 256, 4]⟩
abbrev S1x1 : Shape := ⟨2, ![1, 1]⟩
abbrev S256 : Shape := ⟨1, ![256]⟩
abbrev S256x1 : Shape := ⟨2, ![256, 1]⟩
abbrev S256x2432 : Shape := ⟨2, ![256, 2432]⟩
abbrev S1x256x64 : Shape := ⟨3, ![1, 256, 64]⟩
abbrev S256x4 : Shape := ⟨2, ![256, 4]⟩
abbrev S1x256x4 : Shape := ⟨3, ![1, 256, 4]⟩
abbrev S12x512x256 : Shape := ⟨3, ![12, 512, 256]⟩
abbrev S1x256 : Shape := ⟨2, ![1, 256]⟩
abbrev S12x512x64 : Shape := ⟨3, ![12, 512, 64]⟩
abbrev S1x512x256 : Shape := ⟨3, ![1, 512, 256]⟩
abbrev S1x512x64 : Shape := ⟨3, ![1, 512, 64]⟩
abbrev S1x64 : Shape := ⟨2, ![1, 64]⟩
abbrev S512x256 : Shape := ⟨2, ![512, 256]⟩
abbrev S512x64 : Shape := ⟨2, ![512, 64]⟩
abbrev S2x512x64 : Shape := ⟨3, ![2, 512, 64]⟩
abbrev S2x2048x64 : Shape := ⟨3, ![2, 2048, 64]⟩
abbrev S512x2048 : Shape := ⟨2, ![512, 2048]⟩
abbrev S2x512x4 : Shape := ⟨3, ![2, 512, 4]⟩
abbrev S512x128 : Shape := ⟨2, ![512, 128]⟩
abbrev S512x512 : Shape := ⟨2, ![512, 512]⟩
abbrev S512x576 : Shape := ⟨2, ![512, 576]⟩
abbrev S1x2048x64 : Shape := ⟨3, ![1, 2048, 64]⟩
abbrev S2048x64 : Shape := ⟨2, ![2048, 64]⟩
abbrev S1x512x4 : Shape := ⟨3, ![1, 512, 4]⟩
abbrev S512x4 : Shape := ⟨2, ![512, 4]⟩
abbrev S512 : Shape := ⟨1, ![512]⟩
abbrev S512x1 : Shape := ⟨2, ![512, 1]⟩
abbrev S576x64 : Shape := ⟨2, ![576, 64]⟩
abbrev S512x1536 : Shape := ⟨2, ![512, 1536]⟩
abbrev S512x384 : Shape := ⟨2, ![512, 384]⟩
abbrev S1x1536x64 : Shape := ⟨3, ![1, 1536, 64]⟩
abbrev S1536x64 : Shape := ⟨2, ![1536, 64]⟩
abbrev S1x384x64 : Shape := ⟨3, ![1, 384, 64]⟩
abbrev S384x64 : Shape := ⟨2, ![384, 64]⟩
abbrev S512x1024 : Shape := ⟨2, ![512, 1024]⟩
abbrev S1x1024x64 : Shape := ⟨3, ![1, 1024, 64]⟩
abbrev S1024x64 : Shape := ⟨2, ![1024, 64]⟩
abbrev S1x128x64 : Shape := ⟨3, ![1, 128, 64]⟩
abbrev S128x64 : Shape := ⟨2, ![128, 64]⟩
abbrev S256x3072 : Shape := ⟨2, ![256, 3072]⟩

abbrev nBuf : Space → Nat
  | .hbm => 49
  | .vmem => 55
  | .smem => 0
  | _ => 0

abbrev bufTy : (tb : Table) → Fin (tcTables nBuf tb) → BufTy
  | .hbm, ⟨0, _⟩ => ⟨S1x2048x768, .f32⟩
  | .hbm, ⟨1, _⟩ => ⟨S1x2048x768, .f32⟩
  | .hbm, ⟨2, _⟩ => ⟨S1x2048x768, .f32⟩
  | .hbm, ⟨3, _⟩ => ⟨S2, .f32⟩
  | .hbm, ⟨4, _⟩ => ⟨S768x768, .f32⟩
  | .hbm, ⟨5, _⟩ => ⟨S768x768, .f32⟩
  | .hbm, ⟨6, _⟩ => ⟨S768x768, .f32⟩
  | .hbm, ⟨7, _⟩ => ⟨S768x768, .f32⟩
  | .hbm, ⟨8, _⟩ => ⟨S4x64, .f32⟩
  | .hbm, ⟨9, _⟩ => ⟨S4x64, .f32⟩
  | .hbm, ⟨10, _⟩ => ⟨S256x64, .f32⟩
  | .hbm, ⟨11, _⟩ => ⟨S256x64, .f32⟩
  | .hbm, ⟨12, _⟩ => ⟨S768x36, .f32⟩
  | .hbm, ⟨13, _⟩ => ⟨S768x3072, .f32⟩
  | .hbm, ⟨14, _⟩ => ⟨S3072x768, .f32⟩
  | .hbm, ⟨15, _⟩ => ⟨S2048x2048, .i1⟩
  | .hbm, ⟨16, _⟩ => ⟨S2048x2048, .i1⟩
  | .hbm, ⟨17, _⟩ => ⟨S2048x768, .f32⟩
  | .hbm, ⟨18, _⟩ => ⟨S2048x768, .f32⟩
  | .hbm, ⟨19, _⟩ => ⟨S_, .i32⟩
  | .hbm, ⟨20, _⟩ => ⟨S_, .f32⟩
  | .hbm, ⟨21, _⟩ => ⟨S768x128, .f32⟩
  | .hbm, ⟨22, _⟩ => ⟨S768x2432, .f32⟩
  | .hbm, ⟨23, _⟩ => ⟨S768x2432, .bf16⟩
  | .hbm, ⟨24, _⟩ => ⟨S1x2, .f32⟩
  | .hbm, ⟨25, _⟩ => ⟨S2048x768, .f32⟩
  | .hbm, ⟨26, _⟩ => ⟨S12x2048x64, .bf16⟩
  | .hbm, ⟨27, _⟩ => ⟨S12x2048x64, .bf16⟩
  | .hbm, ⟨28, _⟩ => ⟨S12x2048x64, .bf16⟩
  | .hbm, ⟨29, _⟩ => ⟨S12x2048x4, .f32⟩
  | .hbm, ⟨30, _⟩ => ⟨S12x512x256, .bf16⟩
  | .hbm, ⟨31, _⟩ => ⟨S12x512x256, .bf16⟩
  | .hbm, ⟨32, _⟩ => ⟨S256x64, .bf16⟩
  | .hbm, ⟨33, _⟩ => ⟨S256x64, .bf16⟩
  | .hbm, ⟨34, _⟩ => ⟨S1x256, .f32⟩
  | .hbm, ⟨35, _⟩ => ⟨S1x256, .bf16⟩
  | .hbm, ⟨36, _⟩ => ⟨S1x256, .f32⟩
  | .hbm, ⟨37, _⟩ => ⟨S1x256, .bf16⟩
  | .hbm, ⟨38, _⟩ => ⟨S12x512x64, .bf16⟩
  | .hbm, ⟨39, _⟩ => ⟨S12x512x64, .bf16⟩
  | .hbm, ⟨40, _⟩ => ⟨S2048x2048, .i8⟩
  | .hbm, ⟨41, _⟩ => ⟨S_, .bf16⟩
  | .hbm, ⟨42, _⟩ => ⟨S2048x768, .bf16⟩
  | .hbm, ⟨43, _⟩ => ⟨S2048x768, .bf16⟩
  | .hbm, ⟨44, _⟩ => ⟨S768x768, .bf16⟩
  | .hbm, ⟨45, _⟩ => ⟨S768x3072, .bf16⟩
  | .hbm, ⟨46, _⟩ => ⟨S3072x768, .bf16⟩
  | .hbm, ⟨47, _⟩ => ⟨S2048x768, .f32⟩
  | .hbm, ⟨48, _⟩ => ⟨S1x2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S1x2, .f32⟩
  | .local _ .vmem, ⟨5, _⟩ => ⟨S768x2432, .bf16⟩
  | .local _ .vmem, ⟨6, _⟩ => ⟨S256x768, .f32⟩
  | .local _ .vmem, ⟨7, _⟩ => ⟨S256x768, .f32⟩
  | .local _ .vmem, ⟨8, _⟩ => ⟨S12x256x64, .bf16⟩
  | .local _ .vmem, ⟨9, _⟩ => ⟨S12x256x64, .bf16⟩
  | .local _ .vmem, ⟨10, _⟩ => ⟨S12x256x64, .bf16⟩
  | .local _ .vmem, ⟨11, _⟩ => ⟨S12x256x64, .bf16⟩
  | .local _ .vmem, ⟨12, _⟩ => ⟨S12x256x64, .bf16⟩
  | .local _ .vmem, ⟨13, _⟩ => ⟨S12x256x64, .bf16⟩
  | .local _ .vmem, ⟨14, _⟩ => ⟨S12x256x4, .f32⟩
  | .local _ .vmem, ⟨15, _⟩ => ⟨S12x256x4, .f32⟩
  | .local _ .vmem, ⟨16, _⟩ => ⟨S1x512x256, .bf16⟩
  | .local _ .vmem, ⟨17, _⟩ => ⟨S1x512x256, .bf16⟩
  | .local _ .vmem, ⟨18, _⟩ => ⟨S1x512x256, .bf16⟩
  | .local _ .vmem, ⟨19, _⟩ => ⟨S1x512x256, .bf16⟩
  | .local _ .vmem, ⟨20, _⟩ => ⟨S256x64, .bf16⟩
  | .local _ .vmem, ⟨21, _⟩ => ⟨S256x64, .bf16⟩
  | .local _ .vmem, ⟨22, _⟩ => ⟨S1x256, .bf16⟩
  | .local _ .vmem, ⟨23, _⟩ => ⟨S1x256, .bf16⟩
  | .local _ .vmem, ⟨24, _⟩ => ⟨S1x512x64, .bf16⟩
  | .local _ .vmem, ⟨25, _⟩ => ⟨S1x512x64, .bf16⟩
  | .local _ .vmem, ⟨26, _⟩ => ⟨S1x512x64, .bf16⟩
  | .local _ .vmem, ⟨27, _⟩ => ⟨S1x512x64, .bf16⟩
  | .local _ .vmem, ⟨28, _⟩ => ⟨S2x512x64, .bf16⟩
  | .local _ .vmem, ⟨29, _⟩ => ⟨S2x512x64, .bf16⟩
  | .local _ .vmem, ⟨30, _⟩ => ⟨S2x2048x64, .bf16⟩
  | .local _ .vmem, ⟨31, _⟩ => ⟨S2x2048x64, .bf16⟩
  | .local _ .vmem, ⟨32, _⟩ => ⟨S2x2048x64, .bf16⟩
  | .local _ .vmem, ⟨33, _⟩ => ⟨S2x2048x64, .bf16⟩
  | .local _ .vmem, ⟨34, _⟩ => ⟨S2x512x64, .bf16⟩
  | .local _ .vmem, ⟨35, _⟩ => ⟨S2x512x64, .bf16⟩
  | .local _ .vmem, ⟨36, _⟩ => ⟨S2x512x64, .bf16⟩
  | .local _ .vmem, ⟨37, _⟩ => ⟨S2x512x64, .bf16⟩
  | .local _ .vmem, ⟨38, _⟩ => ⟨S512x2048, .i8⟩
  | .local _ .vmem, ⟨39, _⟩ => ⟨S512x2048, .i8⟩
  | .local _ .vmem, ⟨40, _⟩ => ⟨S2x512x4, .f32⟩
  | .local _ .vmem, ⟨41, _⟩ => ⟨S2x512x4, .f32⟩
  | .local _ .vmem, ⟨42, _⟩ => ⟨S512x128, .bf16⟩
  | .local _ .vmem, ⟨43, _⟩ => ⟨S512x128, .bf16⟩
  | .local _ .vmem, ⟨44, _⟩ => ⟨S512x128, .bf16⟩
  | .local _ .vmem, ⟨45, _⟩ => ⟨S512x128, .bf16⟩
  | .local _ .vmem, ⟨46, _⟩ => ⟨S256x768, .bf16⟩
  | .local _ .vmem, ⟨47, _⟩ => ⟨S256x768, .bf16⟩
  | .local _ .vmem, ⟨48, _⟩ => ⟨S256x768, .f32⟩
  | .local _ .vmem, ⟨49, _⟩ => ⟨S256x768, .f32⟩
  | .local _ .vmem, ⟨50, _⟩ => ⟨S768x768, .bf16⟩
  | .local _ .vmem, ⟨51, _⟩ => ⟨S768x3072, .bf16⟩
  | .local _ .vmem, ⟨52, _⟩ => ⟨S3072x768, .bf16⟩
  | .local _ .vmem, ⟨53, _⟩ => ⟨S256x768, .f32⟩
  | .local _ .vmem, ⟨54, _⟩ => ⟨S256x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_call0_v0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6_0 : Ref sig .tc := ⟨.hbm, 25, rfl⟩
abbrev main_v6_1 : Ref sig .tc := ⟨.hbm, 26, rfl⟩
abbrev main_v6_2 : Ref sig .tc := ⟨.hbm, 27, rfl⟩
abbrev main_v6_3 : Ref sig .tc := ⟨.hbm, 28, rfl⟩
abbrev main_v6_4 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15_0 : Ref sig .tc := ⟨.hbm, 38, rfl⟩
abbrev main_v15_1 : Ref sig .tc := ⟨.hbm, 39, rfl⟩
abbrev main_v16 : Ref sig .tc := ⟨.hbm, 40, rfl⟩
abbrev main_cst : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc2_stg5_0 : Ref sig .tc := ⟨.vmem, 38, rfl⟩
abbrev cc2_stg5_1 : Ref sig .tc := ⟨.vmem, 39, rfl⟩
abbrev cc2_stg6_0 : Ref sig .tc := ⟨.vmem, 40, rfl⟩
abbrev cc2_stg6_1 : Ref sig .tc := ⟨.vmem, 41, rfl⟩
abbrev cc2_stg7_0 : Ref sig .tc := ⟨.vmem, 42, rfl⟩
abbrev cc2_stg7_1 : Ref sig .tc := ⟨.vmem, 43, rfl⟩
abbrev cc2_stg8_0 : Ref sig .tc := ⟨.vmem, 44, rfl⟩
abbrev cc2_stg8_1 : Ref sig .tc := ⟨.vmem, 45, rfl⟩
abbrev cc3_stg0_0 : Ref sig .tc := ⟨.vmem, 46, rfl⟩
abbrev cc3_stg0_1 : Ref sig .tc := ⟨.vmem, 47, rfl⟩
abbrev cc3_stg1_0 : Ref sig .tc := ⟨.vmem, 48, rfl⟩
abbrev cc3_stg1_1 : Ref sig .tc := ⟨.vmem, 49, rfl⟩
abbrev cc3_stg2_0 : Ref sig .tc := ⟨.vmem, 50, rfl⟩
abbrev cc3_stg3_0 : Ref sig .tc := ⟨.vmem, 51, rfl⟩
abbrev cc3_stg4_0 : Ref sig .tc := ⟨.vmem, 52, rfl⟩
abbrev cc3_stg5_0 : Ref sig .tc := ⟨.vmem, 53, rfl⟩
abbrev cc3_stg5_1 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25
abbrev cc1_sem7_0 : DmaSem sig := 26
abbrev cc1_sem7_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem4_1 : DmaSem sig := 37
abbrev cc2_sem5_0 : DmaSem sig := 38
abbrev cc2_sem5_1 : DmaSem sig := 39
abbrev cc2_sem6_0 : DmaSem sig := 40
abbrev cc2_sem6_1 : DmaSem sig := 41
abbrev cc2_sem7_0 : DmaSem sig := 42
abbrev cc2_sem7_1 : DmaSem sig := 43
abbrev cc2_sem8_0 : DmaSem sig := 44
abbrev cc2_sem8_1 : DmaSem sig := 45
abbrev cc3_sem0_0 : DmaSem sig := 46
abbrev cc3_sem0_1 : DmaSem sig := 47
abbrev cc3_sem1_0 : DmaSem sig := 48
abbrev cc3_sem1_1 : DmaSem sig := 49
abbrev cc3_sem2_0 : DmaSem sig := 50
abbrev cc3_sem3_0 : DmaSem sig := 51
abbrev cc3_sem4_0 : DmaSem sig := 52
abbrev cc3_sem5_0 : DmaSem sig := 53
abbrev cc3_sem5_1 : DmaSem sig := 54

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x2432 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S12x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S12x256x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S12x256x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S12x256x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![12], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x512x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x512x64 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨2, ![4, 6], ![false, false]⟩

def k2_cond1 (i : grid2.Coords) : BitVec 1 :=
  let arg0 : BitVec 32 := BitVec.ofNat 32 (i 0).val
  let c0_i32 : BitVec 32 := 0#32
  let v0 : BitVec 32 := Scalar.maxsi arg0 c0_i32
  let c3_i32 : BitVec 32 := 3#32
  let v1 : BitVec 32 := Scalar.minsi v0 c3_i32
  let c0_i32_0 : BitVec 32 := 0#32
  let v2 : BitVec 1 := Scalar.cmpi .ne v1 c0_i32_0
  v2

def k2_cond2 (i : grid2.Coords) : BitVec 1 :=
  let arg0 : BitVec 32 := BitVec.ofNat 32 (i 0).val
  let c0_i32 : BitVec 32 := 0#32
  let v0 : BitVec 32 := Scalar.maxsi arg0 c0_i32
  let c3_i32 : BitVec 32 := 3#32
  let v1 : BitVec 32 := Scalar.minsi v0 c3_i32
  let c1_i32 : BitVec 32 := 1#32
  let v3 : BitVec 32 := Scalar.subi v1 c1_i32
  let c0_i32_1 : BitVec 32 := 0#32
  let v4 : BitVec 1 := Scalar.cmpi .ne v3 c0_i32_1
  v4

def k2_cond3 (i : grid2.Coords) : BitVec 1 :=
  let arg0 : BitVec 32 := BitVec.ofNat 32 (i 0).val
  let c0_i32 : BitVec 32 := 0#32
  let v0 : BitVec 32 := Scalar.maxsi arg0 c0_i32
  let c3_i32 : BitVec 32 := 3#32
  let v1 : BitVec 32 := Scalar.minsi v0 c3_i32
  let c1_i32 : BitVec 32 := 1#32
  let v3 : BitVec 32 := Scalar.subi v1 c1_i32
  let c1_i32_2 : BitVec 32 := 1#32
  let v5 : BitVec 32 := Scalar.subi v3 c1_i32_2
  let c0_i32_3 : BitVec 32 := 0#32
  let v6 : BitVec 1 := Scalar.cmpi .ne v5 c0_i32_3
  v6

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2x512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2x2048x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2x2048x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2x512x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S2x512x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S512x2048 .i8 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S2x512x4 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S512x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S512x128 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x768 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x768 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S768x768 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S768x3072 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S3072x768 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S256x768 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== KernelIdeal.lean ====
variable {F : FTy → Type} [FloatOps F] [Named F]
def κ : String → Option EReal := fun
  | "mask" => some ⊥
  | "unmask" => some ⊤
  | _ => none
-- ==== ReferenceIdeal.lean ====
abbrev S1x2048x768 : Shape := ⟨3, ![1, 2048, 768]⟩
abbrev S2 : Shape := ⟨1, ![2]⟩
abbrev S768x768 : Shape := ⟨2, ![768, 768]⟩
abbrev S4x64 : Shape := ⟨2, ![4, 64]⟩
abbrev S256x64 : Shape := ⟨2, ![256, 64]⟩
abbrev S768x36 : Shape := ⟨2, ![768, 36]⟩
abbrev S768x3072 : Shape := ⟨2, ![768, 3072]⟩
abbrev S3072x768 : Shape := ⟨2, ![3072, 768]⟩
abbrev S2048x2048 : Shape := ⟨2, ![2048, 2048]⟩
abbrev S1 : Shape := ⟨1, ![1]⟩
abbrev S_ : Shape := ⟨0, ![]⟩
abbrev S1x2048 : Shape := ⟨2, ![1, 2048]⟩
abbrev S1x2048x1 : Shape := ⟨3, ![1, 2048, 1]⟩
abbrev S1x2048x12x64 : Shape := ⟨4, ![1, 2048, 12, 64]⟩
abbrev S1x12x2048x64 : Shape := ⟨4, ![1, 12, 2048, 64]⟩
abbrev S1x12x512x4x64 : Shape := ⟨5, ![1, 12, 512, 4, 64]⟩
abbrev S1x1x1x4x64 : Shape := ⟨5, ![1, 1, 1, 4, 64]⟩
abbrev S1x12x512x256 : Shape := ⟨4, ![1, 12, 512, 256]⟩
abbrev S1x12x512x64 : Shape := ⟨4, ![1, 12, 512, 64]⟩
abbrev S1x12x2048x512 : Shape := ⟨4, ![1, 12, 2048, 512]⟩
abbrev S512 : Shape := ⟨1, ![512]⟩
abbrev S1x512 : Shape := ⟨2, ![1, 512]⟩
abbrev S2048 : Shape := ⟨1, ![2048]⟩
abbrev S2048x1 : Shape := ⟨2, ![2048, 1]⟩
abbrev S2048x512 : Shape := ⟨2, ![2048, 512]⟩
abbrev S1x1x2048x512 : Shape := ⟨4, ![1, 1, 2048, 512]⟩
abbrev S1x12x2048x1 : Shape := ⟨4, ![1, 12, 2048, 1]⟩
abbrev S1x12x2048x513 : Shape := ⟨4, ![1, 12, 2048, 513]⟩
abbrev S1x12x2048 : Shape := ⟨3, ![1, 12, 2048]⟩
abbrev S1x12x1x64 : Shape := ⟨4, ![1, 12, 1, 64]⟩
abbrev S1x12x513x64 : Shape := ⟨4, ![1, 12, 513, 64]⟩
abbrev S1x12x2048x2048 : Shape := ⟨4, ![1, 12, 2048, 2048]⟩
abbrev S1x1x2048x2048 : Shape := ⟨4, ![1, 1, 2048, 2048]⟩
abbrev S1x2048x36 : Shape := ⟨3, ![1, 2048, 36]⟩
abbrev S1x2048x12x3 : Shape := ⟨4, ![1, 2048, 12, 3]⟩
abbrev S1x12x2048x3 : Shape := ⟨4, ![1, 12, 2048, 3]⟩
abbrev S1x2048x3072 : Shape := ⟨3, ![1, 2048, 3072]⟩

abbrev nBuf : Space → Nat
  | .hbm => 203
  | .vmem => 0
  | .smem => 0
  | _ => 0

abbrev hbmTy0_0 (i : Nat) : BufTy := match i % 128 with
  | 0 => ⟨S1x2048x768, .f32⟩
  | 1 => ⟨S1x2048x768, .f32⟩
  | 2 => ⟨S1x2048x768, .f32⟩
  | 3 => ⟨S2, .f32⟩
  | 4 => ⟨S768x768, .f32⟩
  | 5 => ⟨S768x768, .f32⟩
  | 6 => ⟨S768x768, .f32⟩
  | 7 => ⟨S768x768, .f32⟩
  | 8 => ⟨S4x64, .f32⟩
  | 9 => ⟨S4x64, .f32⟩
  | 10 => ⟨S256x64, .f32⟩
  | 11 => ⟨S256x64, .f32⟩
  | 12 => ⟨S768x36, .f32⟩
  | 13 => ⟨S768x3072, .f32⟩
  | 14 => ⟨S3072x768, .f32⟩
  | 15 => ⟨S2048x2048, .i1⟩
  | 16 => ⟨S2048x2048, .i1⟩
  | 17 => ⟨S1, .f32⟩
  | 18 => ⟨S_, .f32⟩
  | 19 => ⟨S1x2048x768, .f32⟩
  | 20 => ⟨S1x2048x768, .f32⟩
  | 21 => ⟨S1, .f32⟩
  | 22 => ⟨S_, .f32⟩
  | 23 => ⟨S1x2048x768, .f32⟩
  | 24 => ⟨S1x2048x768, .f32⟩
  | 25 => ⟨S1x2048x768, .f32⟩
  | 26 => ⟨S1x2048x768, .f32⟩
  | 27 => ⟨S_, .f32⟩
  | 28 => ⟨S1x2048, .f32⟩
  | 29 => ⟨S1x2048x1, .f32⟩
  | 30 => ⟨S_, .f32⟩
  | 31 => ⟨S1x2048x1, .f32⟩
  | 32 => ⟨S1x2048x1, .f32⟩
  | 33 => ⟨S_, .f32⟩
  | 34 => ⟨S1x2048x1, .f32⟩
  | 35 => ⟨S1x2048x1, .f32⟩
  | 36 => ⟨S1x2048x1, .f32⟩
  | 37 => ⟨S1x2048x768, .f32⟩
  | 38 => ⟨S1x2048x768, .f32⟩
  | 39 => ⟨S1x2048x768, .f32⟩
  | 40 => ⟨S1x2048x12x64, .f32⟩
  | 41 => ⟨S1x12x2048x64, .f32⟩
  | 42 => ⟨S1x2048x768, .f32⟩
  | 43 => ⟨S1x2048x12x64, .f32⟩
  | 44 => ⟨S1x12x2048x64, .f32⟩
  | 45 => ⟨S1x2048x768, .f32⟩
  | 46 => ⟨S1x2048x12x64, .f32⟩
  | 47 => ⟨S1x12x2048x64, .f32⟩
  | 48 => ⟨S1x12x512x4x64, .f32⟩
  | 49 => ⟨S1x1x1x4x64, .f32⟩
  | 50 => ⟨S1x12x512x4x64, .f32⟩
  | 51 => ⟨S1x12x512x4x64, .f32⟩
  | 52 => ⟨S1x12x512x256, .f32⟩
  | 53 => ⟨S1x12x512x64, .f32⟩
  | 54 => ⟨S1x12x512x4x64, .f32⟩
  | 55 => ⟨S1x1x1x4x64, .f32⟩
  | 56 => ⟨S1x12x512x4x64, .f32⟩
  | 57 => ⟨S1x12x512x4x64, .f32⟩
  | 58 => ⟨S1x12x512x256, .f32⟩
  | 59 => ⟨S1x12x512x64, .f32⟩
  | 60 => ⟨S1x12x2048x512, .f32⟩
  | 61 => ⟨S_, .f32⟩
  | 62 => ⟨S1x12x2048x512, .f32⟩
  | 63 => ⟨S1x12x2048x512, .f32⟩
  | 64 => ⟨S512, .i32⟩
  | 65 => ⟨S_, .i32⟩
  | 66 => ⟨S512, .i32⟩
  | 67 => ⟨S512, .i32⟩
  | 68 => ⟨S_, .i32⟩
  | 69 => ⟨S512, .i32⟩
  | 70 => ⟨S512, .i32⟩
  | 71 => ⟨S_, .i32⟩
  | 72 => ⟨S512, .i32⟩
  | 73 => ⟨S512, .i32⟩
  | 74 => ⟨S1x512, .i32⟩
  | 75 => ⟨S2048, .i32⟩
  | 76 => ⟨S2048x1, .i32⟩
  | 77 => ⟨S2048x512, .i32⟩
  | 78 => ⟨S2048x512, .i32⟩
  | 79 => ⟨S2048x512, .i1⟩
  | 80 => ⟨S1x1x2048x512, .i1⟩
  | 81 => ⟨S_, .f32⟩
  | 82 => ⟨S_, .f32⟩
  | 83 => ⟨S1x12x2048x512, .i1⟩
  | 84 => ⟨S1x12x2048x512, .f32⟩
  | 85 => ⟨S1x12x2048x512, .f32⟩
  | 86 => ⟨S_, .f32⟩
  | 87 => ⟨S1x12x2048x1, .f32⟩
  | 88 => ⟨S1x12x2048x513, .f32⟩
  | 89 => ⟨S_, .f32⟩
  | 90 => ⟨S1x12x2048, .f32⟩
  | 91 => ⟨S_, .f32⟩
  | 92 => ⟨S1x12x2048, .f32⟩
  | 93 => ⟨S1x12x2048, .f32⟩
  | 94 => ⟨S1x12x2048x1, .f32⟩
  | 95 => ⟨S1x12x2048x513, .f32⟩
  | 96 => ⟨S1x12x2048x513, .f32⟩
  | 97 => ⟨S1x12x2048x513, .f32⟩
  | 98 => ⟨S_, .f32⟩
  | 99 => ⟨S1x12x2048, .f32⟩
  | 100 => ⟨S1x12x2048x1, .f32⟩
  | 101 => ⟨S1x12x2048x513, .f32⟩
  | 102 => ⟨S1x12x2048x513, .f32⟩
  | 103 => ⟨S_, .f32⟩
  | 104 => ⟨S1x12x1x64, .f32⟩
  | 105 => ⟨S1x12x513x64, .f32⟩
  | 106 => ⟨S1x12x2048x64, .f32⟩
  | 107 => ⟨S1x12x2048x2048, .f32⟩
  | 108 => ⟨S_, .f32⟩
  | 109 => ⟨S1x12x2048x2048, .f32⟩
  | 110 => ⟨S1x12x2048x2048, .f32⟩
  | 111 => ⟨S1x1x2048x2048, .i1⟩
  | 112 => ⟨S_, .f32⟩
  | 113 => ⟨S_, .f32⟩
  | 114 => ⟨S1x12x2048x2048, .i1⟩
  | 115 => ⟨S1x12x2048x2048, .f32⟩
  | 116 => ⟨S1x12x2048x2048, .f32⟩
  | 117 => ⟨S_, .f32⟩
  | 118 => ⟨S1x12x2048, .f32⟩
  | 119 => ⟨S_, .f32⟩
  | 120 => ⟨S1x12x2048, .f32⟩
  | 121 => ⟨S1x12x2048, .f32⟩
  | 122 => ⟨S1x12x2048x1, .f32⟩
  | 123 => ⟨S1x12x2048x2048, .f32⟩
  | 124 => ⟨S1x12x2048x2048, .f32⟩
  | 125 => ⟨S1x12x2048x2048, .f32⟩
  | 126 => ⟨S_, .f32⟩
  | 127 => ⟨S1x12x2048, .f32⟩
  | _ => ⟨S1x2048x768, .f32⟩

abbrev hbmTy0_1 (i : Nat) : BufTy := match i % 128 with
  | 0 => ⟨S1x12x2048x1, .f32⟩
  | 1 => ⟨S1x12x2048x2048, .f32⟩
  | 2 => ⟨S1x12x2048x2048, .f32⟩
  | 3 => ⟨S1x12x2048x64, .f32⟩
  | 4 => ⟨S1x12x2048x2048, .f32⟩
  | 5 => ⟨S_, .f32⟩
  | 6 => ⟨S1x12x2048x2048, .f32⟩
  | 7 => ⟨S1x12x2048x2048, .f32⟩
  | 8 => ⟨S1x1x2048x2048, .i1⟩
  | 9 => ⟨S_, .f32⟩
  | 10 => ⟨S_, .f32⟩
  | 11 => ⟨S1x12x2048x2048, .i1⟩
  | 12 => ⟨S1x12x2048x2048, .f32⟩
  | 13 => ⟨S1x12x2048x2048, .f32⟩
  | 14 => ⟨S_, .f32⟩
  | 15 => ⟨S1x12x2048, .f32⟩
  | 16 => ⟨S_, .f32⟩
  | 17 => ⟨S1x12x2048, .f32⟩
  | 18 => ⟨S1x12x2048, .f32⟩
  | 19 => ⟨S1x12x2048x1, .f32⟩
  | 20 => ⟨S1x12x2048x2048, .f32⟩
  | 21 => ⟨S1x12x2048x2048, .f32⟩
  | 22 => ⟨S1x12x2048x2048, .f32⟩
  | 23 => ⟨S_, .f32⟩
  | 24 => ⟨S1x12x2048, .f32⟩
  | 25 => ⟨S1x12x2048x1, .f32⟩
  | 26 => ⟨S1x12x2048x2048, .f32⟩
  | 27 => ⟨S1x12x2048x2048, .f32⟩
  | 28 => ⟨S1x12x2048x64, .f32⟩
  | 29 => ⟨S1x2048x36, .f32⟩
  | 30 => ⟨S1x2048x36, .f32⟩
  | 31 => ⟨S1x2048x36, .f32⟩
  | 32 => ⟨S_, .f32⟩
  | 33 => ⟨S1x2048x36, .f32⟩
  | 34 => ⟨S1x2048x36, .f32⟩
  | 35 => ⟨S_, .f32⟩
  | 36 => ⟨S1x2048x36, .f32⟩
  | 37 => ⟨S1x2048x36, .f32⟩
  | 38 => ⟨S1x2048x12x3, .f32⟩
  | 39 => ⟨S1x12x2048x3, .f32⟩
  | 40 => ⟨S1x12x2048x1, .f32⟩
  | 41 => ⟨S1x12x2048x64, .f32⟩
  | 42 => ⟨S1x12x2048x64, .f32⟩
  | 43 => ⟨S1x12x2048x1, .f32⟩
  | 44 => ⟨S1x12x2048x64, .f32⟩
  | 45 => ⟨S1x12x2048x64, .f32⟩
  | 46 => ⟨S1x12x2048x64, .f32⟩
  | 47 => ⟨S1x12x2048x1, .f32⟩
  | 48 => ⟨S1x12x2048x64, .f32⟩
  | 49 => ⟨S1x12x2048x64, .f32⟩
  | 50 => ⟨S1x12x2048x64, .f32⟩
  | 51 => ⟨S1x2048x12x64, .f32⟩
  | 52 => ⟨S1x2048x768, .f32⟩
  | 53 => ⟨S1x2048x768, .f32⟩
  | 54 => ⟨S1x2048x768, .f32⟩
  | 55 => ⟨S1x2048x768, .f32⟩
  | 56 => ⟨S_, .f32⟩
  | 57 => ⟨S1x2048, .f32⟩
  | 58 => ⟨S1x2048x1, .f32⟩
  | 59 => ⟨S_, .f32⟩
  | 60 => ⟨S1x2048x1, .f32⟩
  | 61 => ⟨S1x2048x1, .f32⟩
  | 62 => ⟨S_, .f32⟩
  | 63 => ⟨S1x2048x1, .f32⟩
  | 64 => ⟨S1x2048x1, .f32⟩
  | 65 => ⟨S1x2048x1, .f32⟩
  | 66 => ⟨S1x2048x768, .f32⟩
  | 67 => ⟨S1x2048x768, .f32⟩
  | 68 => ⟨S1x2048x3072, .f32⟩
  | 69 => ⟨S_, .f32⟩
  | 70 => ⟨S1x2048x3072, .f32⟩
  | 71 => ⟨S1x2048x3072, .f32⟩
  | 72 => ⟨S1x2048x3072, .f32⟩
  | 73 => ⟨S1x2048x768, .f32⟩
  | 74 => ⟨S1x2048x768, .f32⟩
  | _ => ⟨S1x2048x768, .f32⟩

abbrev hbmTy (i : Nat) : BufTy := match i / 128 with
  | 0 => hbmTy0_0 i
  | 1 => hbmTy0_1 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_2 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c : Ref sig .tc := ⟨.hbm, 65, rfl⟩
abbrev main_v44 : Ref sig .tc := ⟨.hbm, 66, rfl⟩
abbrev main_v45 : Ref sig .tc := ⟨.hbm, 67, rfl⟩
abbrev main_c_3 : Ref sig .tc := ⟨.hbm, 68, rfl⟩
abbrev main_v46 : Ref sig .tc := ⟨.hbm, 69, rfl⟩
abbrev main_v47 : Ref sig .tc := ⟨.hbm, 70, rfl⟩
abbrev main_c_4 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_5 : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_v57 : Ref sig .tc := ⟨.hbm, 85, rfl⟩
abbrev main_cst_6 : Ref sig .tc := ⟨.hbm, 86, rfl⟩
abbrev main_v58 : Ref sig .tc := ⟨.hbm, 87, rfl⟩
abbrev main_v59 : Ref sig .tc := ⟨.hbm, 88, rfl⟩
abbrev main_cst_7 : Ref sig .tc := ⟨.hbm, 89, rfl⟩
abbrev main_v60 : Ref sig .tc := ⟨.hbm, 90, rfl⟩
abbrev main_cst_8 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_9 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_10 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_11 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_12 : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_v78 : Ref sig .tc := ⟨.hbm, 116, rfl⟩
abbrev main_cst_13 : Ref sig .tc := ⟨.hbm, 117, rfl⟩
abbrev main_v79 : Ref sig .tc := ⟨.hbm, 118, rfl⟩
abbrev main_cst_14 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_15 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_16 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_17 : Ref sig .tc := ⟨.hbm, 137, rfl⟩
abbrev main_call2_v0 : Ref sig .tc := ⟨.hbm, 138, rfl⟩
abbrev main_call2_v1 : Ref sig .tc := ⟨.hbm, 139, rfl⟩
abbrev main_call2_v2 : Ref sig .tc := ⟨.hbm, 140, rfl⟩
abbrev main_v95 : Ref sig .tc := ⟨.hbm, 141, rfl⟩
abbrev main_cst_18 : Ref sig .tc := ⟨.hbm, 142, rfl⟩
abbrev main_v96 : Ref sig .tc := ⟨.hbm, 143, rfl⟩
abbrev main_cst_19 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_20 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_cst_21 : Ref sig .tc := ⟨.hbm, 160, rfl⟩
abbrev main_v111 : Ref sig .tc := ⟨.hbm, 161, rfl⟩
abbrev main_v112 : Ref sig .tc := ⟨.hbm, 162, rfl⟩
abbrev main_cst_22 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_cst_23 : Ref sig .tc := ⟨.hbm, 184, rfl⟩
abbrev main_v133 : Ref sig .tc := ⟨.hbm, 185, rfl⟩
abbrev main_v134 : Ref sig .tc := ⟨.hbm, 186, rfl⟩
abbrev main_cst_24 : Ref sig .tc := ⟨.hbm, 187, rfl⟩
abbrev main_v135 : Ref sig .tc := ⟨.hbm, 188, rfl⟩
abbrev main_v136 : Ref sig .tc := ⟨.hbm, 189, rfl⟩
abbrev main_cst_25 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_call3_cst : Ref sig .tc := ⟨.hbm, 197, rfl⟩
abbrev main_call3_v0 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩

abbrev nD : Nat := 1
abbrev τ : Topo := Topo.v7x

variable {F : FTy → Type} [FloatOps F]
-- ==== Proof.Soft.lean ====
/- Facts about the extended reals: which expressions are real numbers, sums times a real factor, and the softmax of a row of
   scores, normalised after the weighted sum or before it, over all columns or over those that are not masked. -/
module

public import Idealize.ShloMosaic.PureOps.Ideal
public import Idealize.ShloMosaic.PureOps.Ideal.Laws

@[expose] public section

noncomputable section

namespace Cert.Soft

open Idealize.ShloMosaic

/-- The value is a real number. -/
def IsR (x : EReal) : Prop := ∃ r : ℝ, x = r

theorem IsR.coe (r : ℝ) : IsR (r : EReal) := ⟨r, rfl⟩

theorem IsR.zero : IsR 0 := ⟨0, by simp⟩

theorem IsR.add {x y : EReal} (hx : IsR x) (hy : IsR y) : IsR (x + y) := by
  obtain ⟨a, rfl⟩ := hx; obtain ⟨b, rfl⟩ := hy; exact ⟨a + b, by simp⟩

theorem IsR.mul {x y : EReal} (hx : IsR x) (hy : IsR y) : IsR (x * y) := by
  obtain ⟨a, rfl⟩ := hx; obtain ⟨b, rfl⟩ := hy; exact ⟨a * b, by simp⟩

theorem IsR.sum {ι : Type*} (s : Finset ι) (f : ι → EReal) (h : ∀ i ∈ s, IsR (f i)) : IsR (∑ i ∈ s, f i) := by
  classical
  induction s using Finset.induction_on with
  | empty => simpa using IsR.zero
  | insert a s ha ih =>
    rw [Finset.sum_insert ha]
    exact (h a (Finset.mem_insert_self a s)).add (ih fun i hi => h i (Finset.mem_insert_of_mem hi))

theorem IsR.ne_top {x : EReal} (h : IsR x) : x ≠ ⊤ := by obtain ⟨r, rfl⟩ := h; simp
theorem IsR.ne_bot {x : EReal} (h : IsR x) : x ≠ ⊥ := by obtain ⟨r, rfl⟩ := h; simp

theorem isR_of_ne {x : EReal} (h1 : x ≠ ⊤) (h2 : x ≠ ⊥) : IsR x := ⟨x.toReal, (EReal.coe_toReal h1 h2).symm⟩

/-- A value of finite magnitude is a real number. -/
theorem isR_of_abs {x : EReal} (h : max x (-x) < ⊤) : IsR x := by
  apply isR_of_ne
  · rintro rfl; simp at h
  · rintro rfl; simp at h

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum times a nonnegative real is the sum of the products, whatever the terms. -/
theorem sum_mul_real {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- The scale taken into the left factor of a product of two rows is the scale taken after the sum. -/
theorem scale_sum {n : Nat} (f g : Fin n → EReal) {c : ℝ} (hc : 0 ≤ c) :
    ∑ d, (f d * (c : EReal)) * g d = (∑ d, f d * g d) * (c : EReal) := by
  rw [sum_mul_real _ _ hc]
  exact Finset.sum_congr rfl fun d _ => by rw [mul_assoc, mul_comm (c : EReal), ← mul_assoc]

/-- A real number added before a product with a real number may be multiplied apart. -/
theorem add_mul_real (a : EReal) (p w : ℝ) : (a + (p : EReal)) * (w : EReal) = a * w + (p : EReal) * w := by
  induction a with
  | coe a => norm_cast; ring
  | top =>
    rcases lt_trichotomy w 0 with h | h | h
    · rw [EReal.top_add_coe, EReal.top_mul_coe_of_neg h, ← EReal.coe_mul, EReal.bot_add]
    · subst h; simp
    · rw [EReal.top_add_coe, EReal.top_mul_coe_of_pos h, ← EReal.coe_mul, EReal.top_add_coe]
  | bot =>
    rcases lt_trichotomy w 0 with h | h | h
    · rw [EReal.bot_add, EReal.bot_mul_coe_of_neg h, ← EReal.coe_mul, EReal.top_add_coe]
    · subst h; simp
    · rw [EReal.bot_add, EReal.bot_mul_coe_of_pos h, EReal.bot_add]

/-- A row of sums against a column of real weights is the row's product plus the real row's product. -/
theorem sum_add_mul {n : Nat} (a p w : Fin n → EReal) (hp : ∀ t, IsR (p t)) (hw : ∀ t, IsR (w t)) :
    ∑ t, (a t + p t) * w t = ∑ t, a t * w t + ∑ t, p t * w t := by
  rw [← Finset.sum_add_distrib]
  refine Finset.sum_congr rfl fun t _ => ?_
  obtain ⟨p', hp'⟩ := hp t; obtain ⟨w', hw'⟩ := hw t
  rw [hp', hw', add_mul_real]

/-! ## The normalised row -/

/-- A row over the root of its mean square plus `e`, the mean taken by dividing by `n`. -/
def nrm (n e : EReal) (r : Fin 768 → EReal) (c : Fin 768) : EReal :=
  r c * Ideal.rsqrt (Ideal.div (∑ k, r k * r k) n + e)

theorem sq_nonneg (x : EReal) : 0 ≤ x * x := by
  induction x with
  | coe a => exact_mod_cast mul_self_nonneg a
  | top => simp
  | bot => simp

/-- The normalised row is real, whatever the row: an infinite entry makes the mean square infinite and its inverse root zero. -/
theorem isR_nrm {n e : ℝ} (hn : 0 < n) (he : 0 < e) (r : Fin 768 → EReal) (c : Fin 768) : IsR (nrm n e r c) := by
  unfold nrm
  by_cases h : ∀ k, IsR (r k)
  · choose f hf using h
    have hs : ∑ k, r k * r k = ((∑ k, f k * f k : ℝ) : EReal) := by
      rw [coe_sum]
      exact Finset.sum_congr rfl fun k _ => by rw [hf k, ← EReal.coe_mul]
    have h0 : 0 ≤ ∑ k, f k * f k := Finset.sum_nonneg fun k _ => mul_self_nonneg _
    rw [hs, Ideal.div_coe hn.ne', ← EReal.coe_mul, ← EReal.coe_add, hf c]
    refine IsR.mul (IsR.coe _) ?_
    have hpos : 0 < (∑ k, f k * f k) * (1 / n) + e := by positivity
    show IsR (if _ then _ else if _ then _ else _)
    rw [if_neg (not_lt.mpr hpos.le), if_neg hpos.ne']
    exact ⟨_, rfl⟩
  · push Not at h
    obtain ⟨k, hk⟩ := h
    have ht : r k * r k = ⊤ := by
      generalize r k = y at hk
      induction y with
      | coe a => exact absurd ⟨a, rfl⟩ hk
      | top => simp
      | bot => simp
    have hs : ∑ k, r k * r k = ⊤ := top_le_iff.mp (by
      rw [← ht]
      exact Finset.single_le_sum (f := fun k => r k * r k) (fun i _ => sq_nonneg _) (Finset.mem_univ k))
    rw [hs, Ideal.div_coe hn.ne', EReal.top_mul_coe_of_pos (by positivity), EReal.top_add_coe]
    show IsR (r c * 0)
    rw [mul_zero]; exact IsR.zero

/-! ## The softmax of a row -/

/-- A row's maximum, from −∞. -/
def mx {n : Nat} (s : Fin n → EReal) : EReal := (Finset.univ : Finset (Fin n)).fold max ⊥ s

theorem mx_eq_sup {n : Nat} (s : Fin n → EReal) : mx s = Finset.univ.sup s := rfl

theorem le_mx {n : Nat} (s : Fin n → EReal) (j : Fin n) : s j ≤ mx s := by
  rw [mx_eq_sup]; exact Finset.le_sup (Finset.mem_univ j)

theorem mx_le {n : Nat} {s : Fin n → EReal} {a : EReal} (h : ∀ j, s j ≤ a) : mx s ≤ a := by
  rw [mx_eq_sup]; exact Finset.sup_le fun j _ => h j

theorem mx_ne_top {n : Nat} {s : Fin n → EReal} (h : ∀ j, s j ≠ ⊤) : mx s ≠ ⊤ := by
  rw [mx_eq_sup]
  exact ((Finset.sup_lt_iff (bot_lt_top)).mpr fun j _ => lt_top_iff_ne_top.mpr (h j)).ne

/-- The weighted sum divided by the weights' total, the weights `exp (s j − m)` at the row's maximum `m`. -/
def softK {n : Nat} (s v : Fin n → EReal) : EReal :=
  Ideal.div (∑ j, Ideal.exp (s j - mx s) * v j) (∑ j, Ideal.exp (s j - mx s))

/-- The sum of the weights over their total times the values. -/
def softR {n : Nat} (s v : Fin n → EReal) : EReal :=
  ∑ j, Ideal.div (Ideal.exp (s j - mx s)) (∑ j, Ideal.exp (s j - mx s)) * v j

/-- With no score +∞ and one that is not −∞, normalising after the weighted sum is normalising before it. -/
theorem softK_eq_softR {n : Nat} (s v : Fin n → EReal) (ht : ∀ j, s j ≠ ⊤) (hb : ∃ j, s j ≠ ⊥) : softK s v = softR s v := by
  obtain ⟨j0, hj0⟩ := hb
  have hm : IsR (mx s) := isR_of_ne (mx_ne_top ht) (fun h => hj0 (le_bot_iff.mp (h ▸ le_mx s j0)))
  obtain ⟨m, hm⟩ := hm
  have hp : ∀ j, ∃ p : ℝ, 0 ≤ p ∧ Ideal.exp (s j - mx s) = p := fun j => by
    by_cases h : s j = ⊥
    · exact ⟨0, le_rfl, by rw [h, hm]; rfl⟩
    · obtain ⟨a, ha⟩ := isR_of_ne (ht j) h
      exact ⟨Real.exp (a - m), (Real.exp_pos _).le, by rw [ha, hm, ← EReal.coe_sub, Ideal.exp_coe]⟩
  choose p hp0 hp using hp
  have hpj : 0 < p j0 := by
    obtain ⟨a, ha⟩ := isR_of_ne (ht j0) hj0
    have := hp j0
    rw [ha, hm, ← EReal.coe_sub, Ideal.exp_coe] at this
    rw [← EReal.coe_eq_coe_iff.mp this]; exact Real.exp_pos _
  have hl : ∑ j, Ideal.exp (s j - mx s) = ((∑ j, p j : ℝ) : EReal) := by
    rw [coe_sum]; exact Finset.sum_congr rfl fun j _ => hp j
  have hpos : 0 < ∑ j, p j := Finset.sum_pos' (fun j _ => hp0 j) ⟨j0, Finset.mem_univ _, hpj⟩
  unfold softK softR
  rw [hl, Ideal.div_coe hpos.ne', sum_mul_real _ _ (by positivity)]
  refine Finset.sum_congr rfl fun j _ => ?_
  rw [Ideal.div_coe hpos.ne', mul_assoc, mul_comm (v j), ← mul_assoc]

/-- A sum over all columns is the sum over those named by `e`, where every other column's term is zero. -/
theorem sum_embed {m n : Nat} (e : Fin m → Fin n) (he : Function.Injective e) (f : Fin n → EReal)
    (hf : ∀ j, (∀ k, e k ≠ j) → f j = 0) : ∑ k, f (e k) = ∑ j, f j := by
  classical
  rw [← Finset.sum_image (f := f) (s := Finset.univ) (g := e) (fun a _ b _ h => he h)]
  exact Finset.sum_subset (Finset.subset_univ _) fun j _ hj => hf j fun k hk => hj (Finset.mem_image.mpr ⟨k, Finset.mem_univ _, hk⟩)

/-- The maximum over the columns named by `e`, every other column's score being −∞. -/
theorem mx_embed {m n : Nat} (e : Fin m → Fin n) (s : Fin n → EReal) (hs : ∀ j, (∀ k, e k ≠ j) → s j = ⊥) :
    mx (fun k => s (e k)) = mx s := by
  refine le_antisymm (mx_le fun k => le_mx s (e k)) (mx_le fun j => ?_)
  by_cases h : ∃ k, e k = j
  · obtain ⟨k, rfl⟩ := h; exact le_mx (fun k => s (e k)) k
  · push Not at h; rw [hs j h]; exact bot_le

/-- The softmax over the columns named by `e` is the one over all columns when every other column's score is −∞. -/
theorem softK_embed {m n : Nat} (e : Fin m → Fin n) (he : Function.Injective e) (s v : Fin n → EReal)
    (hs : ∀ j, (∀ k, e k ≠ j) → s j = ⊥) : softK (fun k => s (e k)) (fun k => v (e k)) = softK s v := by
  unfold softK
  rw [mx_embed e s hs]
  rw [sum_embed e he (fun j => Ideal.exp (s j - mx s) * v j) (fun j hj => by rw [hs j hj, EReal.bot_sub, Ideal.exp_bot, zero_mul]),
    sum_embed e he (fun j => Ideal.exp (s j - mx s)) (fun j hj => by rw [hs j hj, EReal.bot_sub, Ideal.exp_bot])]

/-- The softmax with one more column of score zero and value zero, as a program takes it that keeps that column apart. -/
def softC {n : Nat} (s v : Fin n → EReal) : EReal :=
  Ideal.div (∑ j, Ideal.exp (s j - max (mx s) 0) * v j)
    (∑ j, Ideal.exp (s j - max (mx s) 0) + Ideal.exp (0 - max (mx s) 0))

/-- Its columns restricted to those named by `e`, as for `softK`. -/
theorem softC_embed {m n : Nat} (e : Fin m → Fin n) (he : Function.Injective e) (s v : Fin n → EReal)
    (hs : ∀ j, (∀ k, e k ≠ j) → s j = ⊥) : softC (fun k => s (e k)) (fun k => v (e k)) = softC s v := by
  unfold softC
  rw [mx_embed e s hs]
  rw [sum_embed e he (fun j => Ideal.exp (s j - max (mx s) 0) * v j)
      (fun j hj => by rw [hs j hj, EReal.bot_sub, Ideal.exp_bot, zero_mul]),
    sum_embed e he (fun j => Ideal.exp (s j - max (mx s) 0)) (fun j hj => by rw [hs j hj, EReal.bot_sub, Ideal.exp_bot])]

/-- A row with one more column, of value zero. -/
def snoc {n : Nat} (s : Fin n → EReal) (j : Fin (n + 1)) : EReal := if h : j.val < n then s ⟨j.val, h⟩ else 0

theorem snoc_castSucc {n : Nat} (s : Fin n → EReal) (j : Fin n) : snoc s j.castSucc = s j := by
  simp [snoc]

theorem snoc_last {n : Nat} (s : Fin n → EReal) : snoc s (Fin.last n) = 0 := by simp [snoc]

theorem mx_snoc {n : Nat} (s : Fin n → EReal) : mx (snoc s) = max (mx s) 0 := by
  refine le_antisymm (mx_le fun j => ?_) (max_le (mx_le fun j => ?_) ?_)
  · induction j using Fin.lastCases with
    | last => rw [snoc_last]; exact le_max_right _ _
    | cast j => rw [snoc_castSucc]; exact (le_mx s j).trans (le_max_left _ _)
  · have := le_mx (snoc s) j.castSucc; rwa [snoc_castSucc] at this
  · have := le_mx (snoc s) (Fin.last n); rwa [snoc_last] at this

theorem softC_eq_softK {n : Nat} (s v : Fin n → EReal) : softC s v = softK (snoc s) (snoc v) := by
  unfold softC softK
  rw [mx_snoc, Fin.sum_univ_castSucc, Fin.sum_univ_castSucc]
  simp only [snoc_castSucc, snoc_last, mul_zero, add_zero]

/-- The softmax with the zero column kept apart is the reference's over the longer row, when no score is +∞. -/
theorem softC_eq_softR {n : Nat} (s v : Fin n → EReal) (ht : ∀ j, s j ≠ ⊤) : softC s v = softR (snoc s) (snoc v) := by
  rw [softC_eq_softK]
  refine softK_eq_softR _ _ (fun j => ?_) ⟨Fin.last n, by rw [snoc_last]; exact EReal.zero_ne_bot⟩
  induction j using Fin.lastCases with
  | last => rw [snoc_last]; exact EReal.zero_ne_top
  | cast j => rw [snoc_castSucc]; exact ht j

end Cert.Soft
-- ==== Proof.Ops.lean ====
/- Operations on two-axis blocks read at a row and a column, at any extents: row maxima and row sums, a column spread over the
   columns of a block, the two matrix products, and the constants the programs share. -/
module

public import proofs.«01_k».proof.Proof.Soft
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pipeline.Value

@[expose] public section

noncomputable section

namespace Cert.Ops

open Idealize.ShloMosaic Idealize.ShloMosaic.ValueIdx Cert.Soft

variable {α : Type} {m n k : Nat}

/-- A reduction over the columns, at row `r`, meets the elements `(r, c)`. -/
theorem lift_row (h : (⟨2, ![m, n]⟩ : Shape).Reduces [1] (⟨1, ![m]⟩ : Shape)) (r : Fin m) (c : Fin n) :
    h.lift (ix1 r) c = ix2 r c := by
  funext a
  match a with
  | ⟨0, _⟩ => exact Fin.ext ((h.lift_val (ix1 r) c 0).trans (by simp [Shape.Reduces.liftVal, ix1, ix2]))
  | ⟨1, _⟩ => exact Fin.ext ((h.lift_val (ix1 r) c 1).trans (by simp [Shape.Reduces.liftVal, ix1, ix2]))

/-- The sum of each row. -/
theorem rowSum (x : FVec Ideal ⟨2, ![m, n]⟩ .f32) (acc : BitVec 32)
    (h : (⟨2, ![m, n]⟩ : Shape).Reduces [1] (⟨1, ![m]⟩ : Shape)) (hφ) (hacc) (r : Fin m) :
    multiReduction (F := Ideal) (φ := .f32) .add [1] ⟨1, ![m]⟩ x acc h hφ hacc (ix1 r) = ∑ c : Fin n, x (ix2 r c) := by
  rw [Ideal.multiReduction_add_single]
  exact Finset.sum_congr rfl fun c _ => congrArg x (lift_row h r c)

/-- The word of −∞. -/
theorem ofBits_ninf : Ideal.ofBits .f32 0xFF800000#32 = (⊥ : EReal) := by
  simp [Ideal.ofBits, Ideal.ieee]

/-- The word of zero. -/
theorem ofBits_zero : Ideal.ofBits .f32 0x00000000#32 = (0 : EReal) := by
  simp [Ideal.ofBits, Ideal.ieee]

/-- The word of one. -/
theorem ofBits_one : Ideal.ofBits .f32 0x3F800000#32 = (1 : EReal) := by
  simp [Ideal.ofBits, Ideal.ieee]
  rw [← EReal.coe_mul]
  norm_num

/-- The word of 768 is a positive real. -/
theorem ofBits_768 : ∃ r : ℝ, 0 < r ∧ Ideal.ofBits .f32 0x44400000#32 = (r : EReal) := by
  refine ⟨_, ?_, by simp only [Ideal.ofBits, Ideal.ieee]; rfl⟩
  rw [if_neg (by decide)]
  positivity

/-- The word of the stabiliser is a positive real. -/
theorem ofBits_eps : ∃ r : ℝ, 0 < r ∧ Ideal.ofBits .f32 0x358637BD#32 = (r : EReal) := by
  refine ⟨_, ?_, by simp only [Ideal.ofBits, Ideal.ieee]; rfl⟩
  rw [if_neg (by decide)]
  positivity

/-- The word of an eighth is a positive real. -/
theorem ofBits_eighth : ∃ r : ℝ, 0 < r ∧ Ideal.ofBits .f32 0x3E000000#32 = (r : EReal) := by
  refine ⟨_, ?_, by simp only [Ideal.ofBits, Ideal.ieee]; rfl⟩
  rw [if_neg (by decide)]
  positivity

/-- The maximum of each row, from −∞. -/
theorem rowMax (x : FVec Ideal ⟨2, ![m, n]⟩ .f32)
    (h : (⟨2, ![m, n]⟩ : Shape).Reduces [1] (⟨1, ![m]⟩ : Shape)) (hφ) (hacc) (r : Fin m) :
    multiReduction (F := Ideal) (φ := .f32) .maximumf [1] ⟨1, ![m]⟩ x 0xFF800000#32 h hφ hacc (ix1 r)
      = mx fun c : Fin n => x (ix2 r c) := by
  rw [Ideal.multiReduction_maximumf_single]
  unfold mx
  rw [show FloatOps.ofBits (F := Ideal) .f32 0xFF800000#32 = (⊥ : EReal) from ofBits_ninf]
  refine congrArg (fun f => (Finset.univ : Finset (Fin n)).fold max ⊥ f) (funext fun c => ?_)
  exact congrArg x (lift_row h r c)

/-- One column spread over the columns of a block. -/
theorem spread (x : (⟨2, ![m, 1]⟩ : Shape).Idx → α) (h : (⟨2, ![m, 1]⟩ : Shape).Broadcasts ⟨2, ![m, n]⟩) (r : Fin m) (c : Fin n) :
    broadcastTo ⟨2, ![m, n]⟩ x h (ix2 r c) = x (ix2 r 0) :=
  broadcastTo_apply x h _ _ fun a => by
    match a with
    | ⟨0, _⟩ =>
      show r.val = if m = 1 then 0 else r.val
      split
      · have := r.isLt; omega
      · rfl
    | ⟨1, _⟩ => rfl

end Cert.Ops
-- ==== Proof.Spec.lean ====
/- The layer the two programs compute, written on the arguments' elements: two mixed streams, a norm, three attention branches
   (compressed, fine, sliding) mixed by gates, and a squared-relu feed-forward. -/
module

public import proofs.«01_k».proof.Proof.Soft
public import proofs.«01_k».proof.Proof.Ops

@[expose] public section

noncomputable section

namespace Cert.Spec

open Idealize.ShloMosaic Idealize.ShloMosaic.ValueIdx Cert.Soft

/-- An array's contents over the extended reals. -/
abbrev Arr (s : Shape) (e : EltTy) := (⟨s, e⟩ : BufTy).Contents (Elt Ideal)

/-- The arguments, numbered as the programs number them. -/
structure In where
  a0 : Arr ⟨3, ![1, 2048, 768]⟩ .f32
  a2 : Arr ⟨3, ![1, 2048, 768]⟩ .f32
  a3 : Arr ⟨1, ![2]⟩ .f32
  a4 : Arr ⟨2, ![768, 768]⟩ .f32
  a5 : Arr ⟨2, ![768, 768]⟩ .f32
  a6 : Arr ⟨2, ![768, 768]⟩ .f32
  a7 : Arr ⟨2, ![768, 768]⟩ .f32
  a8 : Arr ⟨2, ![4, 64]⟩ .f32
  a9 : Arr ⟨2, ![4, 64]⟩ .f32
  a10 : Arr ⟨2, ![256, 64]⟩ .f32
  a11 : Arr ⟨2, ![256, 64]⟩ .f32
  a12 : Arr ⟨2, ![768, 36]⟩ .f32
  a13 : Arr ⟨2, ![768, 3072]⟩ .f32
  a14 : Arr ⟨2, ![3072, 768]⟩ .f32
  a15 : Arr ⟨2, ![2048, 2048]⟩ .i1
  a16 : Arr ⟨2, ![2048, 2048]⟩ .i1

/-- Head `hd`'s column `d` among the 768. -/
abbrev col (hd : Fin 12) (d : Fin 64) : Fin 768 := ⟨64 * hd.val + d.val, by omega⟩

/-- Head `hd`'s gate `e` among the 36. -/
abbrev gcol (hd : Fin 12) (e : Fin 3) : Fin 36 := ⟨3 * hd.val + e.val, by omega⟩

/-- Row `t / 64` of the four rows that compressed row `b` stands for. -/
abbrev crow (b : Fin 512) (t : Fin 256) : Fin 2048 := ⟨4 * b.val + t.val / 64, by omega⟩
abbrev quart (t : Fin 256) : Fin 4 := ⟨t.val / 64, by omega⟩
abbrev lane (t : Fin 256) : Fin 64 := ⟨t.val % 64, by omega⟩

/-- 768, the norm's stabiliser, and the scores' scale. -/
abbrev n768 : EReal := Ideal.ofBits .f32 0x44400000#32
abbrev eps : EReal := Ideal.ofBits .f32 0x358637BD#32
abbrev c8 : EReal := Ideal.ofBits .f32 0x3E000000#32

/-- The feed-forward row of `r`: norm, matrix, squared relu, matrix, added back. -/
def mlp (wfc : Fin 768 → Fin 3072 → EReal) (wpr : Fin 3072 → Fin 768 → EReal) (r : Fin 768 → EReal) (c : Fin 768) : EReal :=
  r c + ∑ k, (max (∑ j, nrm n768 eps r j * wfc j k) 0 * max (∑ j, nrm n768 eps r j * wfc j k) 0) * wpr k c

namespace In

variable (A : In)

/-- The mixed residual stream. -/
def x1 (i : Fin 2048) (c : Fin 768) : EReal := A.a3 (ix1 0) * A.a0 (ix3 0 i c) + A.a3 (ix1 1) * A.a2 (ix3 0 i c)

/-- Its norm. -/
def h (i : Fin 2048) (c : Fin 768) : EReal := nrm n768 eps (A.x1 i) c

/-- Queries, keys, values. -/
def q (hd : Fin 12) (i : Fin 2048) (d : Fin 64) : EReal := ∑ c, A.h i c * A.a4 (ix2 c (col hd d))
def k (hd : Fin 12) (i : Fin 2048) (d : Fin 64) : EReal := ∑ c, A.h i c * A.a5 (ix2 c (col hd d))
def v (hd : Fin 12) (i : Fin 2048) (d : Fin 64) : EReal := ∑ c, A.h i c * A.a6 (ix2 c (col hd d))

/-- Compressed keys and values. -/
def ck (hd : Fin 12) (b : Fin 512) (d : Fin 64) : EReal :=
  ∑ t : Fin 256, (A.k hd (crow b t) (lane t) + A.a8 (ix2 (quart t) (lane t))) * A.a10 (ix2 t d)
def cv (hd : Fin 12) (b : Fin 512) (d : Fin 64) : EReal :=
  ∑ t : Fin 256, (A.v hd (crow b t) (lane t) + A.a9 (ix2 (quart t) (lane t))) * A.a11 (ix2 t d)

/-- The three branches' masked scores. -/
def cs (hd : Fin 12) (i : Fin 2048) (b : Fin 512) : EReal :=
  if (b.val + 1) * 4 - 1 ≤ i.val then (∑ d, A.q hd i d * A.ck hd b d) * c8 else ⊥
def fs (hd : Fin 12) (i j : Fin 2048) : EReal :=
  if A.a16 (ix2 i j) = 1#1 then (∑ d, A.q hd i d * A.k hd j d) * c8 else ⊥
def ss (hd : Fin 12) (i j : Fin 2048) : EReal :=
  if A.a15 (ix2 i j) = 1#1 then (∑ d, A.q hd i d * A.k hd j d) * c8 else ⊥

/-- The gates. -/
def g (hd : Fin 12) (i : Fin 2048) (e : Fin 3) : EReal :=
  Ideal.div 1 (1 + Ideal.exp (-(∑ c, A.h i c * A.a12 (ix2 c (gcol hd e)))))

/-- The gated attention. -/
def attn (hd : Fin 12) (i : Fin 2048) (d : Fin 64) : EReal :=
  A.g hd i 0 * softR (snoc (A.cs hd i)) (snoc fun b => A.cv hd b d)
    + A.g hd i 1 * softR (A.fs hd i) (fun j => A.v hd j d)
    + A.g hd i 2 * softR (A.ss hd i) (fun j => A.v hd j d)

/-- The attention's rows, heads side by side. -/
def attnF (i : Fin 2048) (c : Fin 768) : EReal := A.attn ⟨c.val / 64, by omega⟩ i ⟨c.val % 64, by omega⟩

/-- The stream after the attention. -/
def x2 (i : Fin 2048) (c : Fin 768) : EReal := A.x1 i c + ∑ k, A.attnF i k * A.a7 (ix2 k c)

/-- The layer's result. -/
def out (i : Fin 2048) (c : Fin 768) : EReal :=
  mlp (fun j k => A.a13 (ix2 j k)) (fun k c => A.a14 (ix2 k c)) (A.x2 i) c

end In

end Cert.Spec
-- ==== Proof.RowOps.lean ====
/- The row-wise parts the kernels share, as vector operations and at a row and a column: the normalised rows, their product with a
   weight matrix, a head's columns cut out of a wide product, and the two-layer tail. -/
module

public import proofs.«01_k».proof.Proof.Ops
public import proofs.«01_k».proof.Proof.Spec

@[expose] public section

noncomputable section

namespace Cert.Rows

open Idealize.ShloMosaic Idealize.ShloMosaic.ValueIdx Cert.Soft Cert.Ops Cert.Spec

/-- A rank-two shape. -/
abbrev Sh (a b : Nat) : Shape := ⟨2, ![a, b]⟩

/-- The side conditions of the normalisation of `m` rows. -/
structure NSide (m : Nat) : Prop where
  red : (Sh m 768).Reduces [1] (⟨1, ![m]⟩ : Shape)
  hφ : FKind.Formats FTy.f32
  hadd : (0x00000000#32 : BitVec 32) = FKind.add.neutral FTy.f32 hφ
  sc : (⟨1, ![m]⟩ : Shape).ShapeCasts (Sh m 1)
  bc : (Sh m 1).Broadcasts (Sh m 768)
  hb : FTy.bf16.bits < FTy.f32.bits

variable {m n k : Nat}

/-- The rows over their root mean square. -/
def normV (S : NSide m) (y : FVec Ideal (Sh m 768) .f32) : FVec Ideal (Sh m 768) .bf16 :=
  truncf .bf16 (mulf y (broadcastTo (Sh m 768) (rsqrt (addf (divf (shapeCast (Sh m 1)
    (multiReduction (F := Ideal) .add [1] ⟨1, ![m]⟩ (mulf y y) 0x00000000#32 S.red S.hφ S.hadd) S.sc)
    (broadcast (Sh m 1) (Scalar.ofBits (F := Ideal) .f32 0x44400000#32)))
    (broadcast (Sh m 1) (Scalar.ofBits (F := Ideal) .f32 0x358637BD#32)))) S.bc)) S.hb

theorem normV_apply (S : NSide m) (y : FVec Ideal (Sh m 768) .f32) (r : Fin m) (c : Fin 768) :
    normV S y (ix2 r c) = nrm n768 eps (fun j => y (ix2 r j)) c := by
  show y (ix2 r c) * broadcastTo (Sh m 768) _ S.bc (ix2 r c) = _
  rw [spread]
  show y (ix2 r c) * Ideal.rsqrt (Ideal.div (shapeCast (Sh m 1) (multiReduction (F := Ideal) .add [1] ⟨1, ![m]⟩ (mulf y y)
    0x00000000#32 S.red S.hφ S.hadd) S.sc (ix2 r 0)) n768 + eps) = _
  rw [shapeCast_a_a1_apply, rowSum]
  rfl

/-- The normalised rows times a weight matrix. -/
def projV (S : NSide m) (y : FVec Ideal (Sh m 768) .f32) (w : FVec Ideal (Sh 768 n) .bf16) : FVec Ideal (Sh m n) .f32 :=
  matmul (DotDims.plain m 768 n) none (normV S y) w (constant (F := Ideal) (Sh m n) .f32 0x00000000#32)

theorem mm_apply (a : FVec Ideal (Sh m k) .bf16) (b : FVec Ideal (Sh k n) .bf16) (r : Fin m) (c : Fin n) :
    matmul (DotDims.plain m k n) none a b (constant (F := Ideal) (Sh m n) .f32 0x00000000#32) (ix2 r c)
      = ∑ j, a (ix2 r j) * b (ix2 j c) := by
  refine (Ideal.matmul_plain_apply none a b _ r c).trans ?_
  rw [constant_apply, ofBits_zero, zero_add]

theorem projV_apply (S : NSide m) (y : FVec Ideal (Sh m 768) .f32) (w : FVec Ideal (Sh 768 n) .bf16) (r : Fin m) (c : Fin n) :
    projV S y w (ix2 r c) = ∑ j, nrm n768 eps (fun l => y (ix2 r l)) j * w (ix2 j c) := by
  refine (mm_apply _ w r c).trans (Finset.sum_congr rfl fun j _ => ?_)
  rw [normV_apply]

/-- The rows plus the attention's projection. -/
def resV (x : FVec Ideal (Sh m 768) .f32) (a : FVec Ideal (Sh m 768) .bf16) (w : FVec Ideal (Sh 768 768) .bf16) :
    FVec Ideal (Sh m 768) .f32 :=
  addf x (matmul (DotDims.plain m 768 768) none a w (constant (F := Ideal) (Sh m 768) .f32 0x00000000#32))

theorem resV_apply (x : FVec Ideal (Sh m 768) .f32) (a : FVec Ideal (Sh m 768) .bf16) (w : FVec Ideal (Sh 768 768) .bf16)
    (r : Fin m) (c : Fin 768) : resV x a w (ix2 r c) = x (ix2 r c) + ∑ j, a (ix2 r j) * w (ix2 j c) :=
  congrArg (x (ix2 r c) + ·) (mm_apply a w r c)

/-- The squared positive part of a hidden layer. -/
def hidV (S : NSide m) (y : FVec Ideal (Sh m 768) .f32) (w : FVec Ideal (Sh 768 3072) .bf16) : FVec Ideal (Sh m 3072) .bf16 :=
  truncf .bf16 (mulf (maximumf (projV S y w) (broadcast (Sh m 3072) (Scalar.ofBits (F := Ideal) .f32 0x00000000#32)))
    (maximumf (projV S y w) (broadcast (Sh m 3072) (Scalar.ofBits (F := Ideal) .f32 0x00000000#32)))) S.hb

theorem hidV_apply (S : NSide m) (y : FVec Ideal (Sh m 768) .f32) (w : FVec Ideal (Sh 768 3072) .bf16) (r : Fin m) (c : Fin 3072) :
    hidV S y w (ix2 r c) = max (∑ j, nrm n768 eps (fun l => y (ix2 r l)) j * w (ix2 j c)) 0
      * max (∑ j, nrm n768 eps (fun l => y (ix2 r l)) j * w (ix2 j c)) 0 := by
  show max (projV S y w (ix2 r c)) (Ideal.ofBits .f32 0x00000000#32) * max (projV S y w (ix2 r c)) (Ideal.ofBits .f32 0x00000000#32) = _
  rw [projV_apply, ofBits_zero]

/-- The two-layer tail on the rows. -/
def mlpV (S : NSide m) (y : FVec Ideal (Sh m 768) .f32) (w : FVec Ideal (Sh 768 3072) .bf16) (p : FVec Ideal (Sh 3072 768) .bf16) :
    FVec Ideal (Sh m 768) .f32 :=
  addf y (matmul (DotDims.plain m 3072 768) none (hidV S y w) p (constant (F := Ideal) (Sh m 768) .f32 0x00000000#32))

theorem mlpV_apply (S : NSide m) (y : FVec Ideal (Sh m 768) .f32) (w : FVec Ideal (Sh 768 3072) .bf16) (p : FVec Ideal (Sh 3072 768) .bf16)
    (r : Fin m) (c : Fin 768) :
    mlpV S y w p (ix2 r c) = mlp (fun j l => w (ix2 j l)) (fun j l => p (ix2 j l)) (fun l => y (ix2 r l)) c := by
  refine (congrArg (y (ix2 r c) + ·) (mm_apply (hidV S y w) p r c)).trans ?_
  unfold mlp
  refine congrArg (y (ix2 r c) + ·) (Finset.sum_congr rfl fun j _ => ?_)
  rw [hidV_apply]

/-- A window of `n` columns from column `off` of a block, under a leading axis. -/
def cutV {φ : FTy} {N : Nat} (off : Nat) (hs : (Sh m N).Slices ![0, off] (Sh m n)) (sc : (Sh m n).ShapeCasts (⟨3, ![1, m, n]⟩ : Shape))
    (y : FVec Ideal (Sh m N) φ) : FVec Ideal (⟨3, ![1, m, n]⟩ : Shape) φ :=
  shapeCast ⟨3, ![1, m, n]⟩ (extractStridedSlice (Sh m n) ![0, off] y hs) sc

theorem cutV_apply {φ : FTy} {N : Nat} (off : Nat) (hs : (Sh m N).Slices ![0, off] (Sh m n))
    (sc : (Sh m n).ShapeCasts (⟨3, ![1, m, n]⟩ : Shape)) (y : FVec Ideal (Sh m N) φ) (u : Fin 1) (r : Fin m) (c : Fin n) (z : Fin N)
    (hz : z.val = off + c.val) : cutV off hs sc y (ix3 u r c) = y (ix2 r z) := by
  obtain rfl : u = 0 := Subsingleton.elim _ _
  refine (shapeCast_ab_1ab_apply _ sc 0 r c).trans ?_
  refine extractStridedSlice_apply _ y hs _ _ fun a => ?_
  match a with
  | ⟨0, _⟩ => show r.val = 0 + r.val; omega
  | ⟨1, _⟩ => exact hz

/-- The compression of a block of rows: the rows' product with a weight matrix plus one row's product with it. -/
def compV (bc : (Sh 1 n).Broadcasts (Sh m n)) (a : FVec Ideal (Sh m k) .bf16) (p : FVec Ideal (Sh 1 k) .bf16) (w : FVec Ideal (Sh k n) .bf16) :
    FVec Ideal (Sh m n) .f32 :=
  addf (matmul (DotDims.plain m k n) none a w (constant (F := Ideal) (Sh m n) .f32 0x00000000#32))
    (broadcastTo (Sh m n) (matmul (DotDims.plain 1 k n) none p w (constant (F := Ideal) (Sh 1 n) .f32 0x00000000#32)) bc)

theorem compV_apply (bc : (Sh 1 n).Broadcasts (Sh m n)) (a : FVec Ideal (Sh m k) .bf16) (p : FVec Ideal (Sh 1 k) .bf16)
    (w : FVec Ideal (Sh k n) .bf16) (hn : n ≠ 1) (r : Fin m) (c : Fin n) :
    compV bc a p w (ix2 r c) = (∑ j, a (ix2 r j) * w (ix2 j c)) + ∑ j, p (ix2 0 j) * w (ix2 j c) := by
  unfold compV
  rw [addf_apply, mm_apply]
  refine congrArg (_ + ·) ?_
  refine (broadcastTo_apply _ bc _ (ix2 0 c) fun a => ?_).trans (mm_apply p w 0 c)
  match a with
  | ⟨0, _⟩ => rfl
  | ⟨1, _⟩ => show c.val = if n = 1 then 0 else c.val; rw [if_neg hn]

end Cert.Rows
-- ==== Proof.ArrBase.lean ====
/- What the modules on the kernels' arrays share: zero offsets, indices by their coordinates, reads at coordinates. -/
module

public import proofs.«01_k».proof.Proof.RowOps
public import proofs.«01_k».proof.Proof.Gen.KernelIdeal.Frame
public import Idealize.ShloMosaic.Lib.Pipeline.ValueKit.Geometry

@[expose] public section

set_option maxRecDepth 16384

noncomputable section

namespace Cert.KernelIdeal.Val

open Idealize.ShloMosaic Idealize.ShloMosaic.TcCoe Idealize.ShloMosaic.ValueIdx Cert.Soft Cert.Spec Cert.KernelIdeal Cert.KernelIdeal.Gen Idealize.ShloMosaic.Pipeline Idealize.SL.Sem

theorem nside256 : Rows.NSide 256 :=
  ⟨reduces_S256x768_S256, .inl rfl, rfl, shapeCasts_S256_S256x1, broadcasts_S256x1_S256x768, bitsLt_bf16_f32⟩

theorem hz2 : (![0, 0] : Fin 2 → Nat) = fun _ => 0 := funext fun a => by fin_cases a <;> rfl
theorem hz3 : (![0, 0, 0] : Fin 3 → Nat) = fun _ => 0 := funext fun a => by fin_cases a <;> rfl

/-- Two indices of a matrix with equal coordinates are one. -/
theorem idx2 {a b : Nat} (i : (⟨2, ![a, b]⟩ : Shape).Idx) (r : Fin a) (k : Fin b) (h0 : (i 0).val = r.val) (h1 : (i 1).val = k.val) :
    i = ix2 r k := funext fun x => by
  match x with
  | ⟨0, _⟩ => exact Fin.ext h0
  | ⟨1, _⟩ => exact Fin.ext h1

/-- Two indices of a three-axis array with equal coordinates are one. -/
theorem idx3 {a b d : Nat} (i : (⟨3, ![a, b, d]⟩ : Shape).Idx) (r : Fin a) (k : Fin b) (l : Fin d) (h0 : (i 0).val = r.val) (h1 : (i 1).val = k.val)
    (h2 : (i 2).val = l.val) :
    i = ix3 r k l := funext fun x => by
  match x with
  | ⟨0, _⟩ => exact Fin.ext h0
  | ⟨1, _⟩ => exact Fin.ext h1
  | ⟨2, _⟩ => exact Fin.ext h2

/-- A matrix read at a row and a column. -/
abbrev rd2 {a b : Nat} (X : (⟨2, ![a, b]⟩ : Shape).Idx → EReal) (i : Fin a) (j : Fin b) : EReal := X (ix2 i j)

/-- A three-axis array read at its coordinates. -/
abbrev rd3 {a b d : Nat} (X : (⟨3, ![a, b, d]⟩ : Shape).Idx → EReal) (i : Fin a) (j : Fin b) (k : Fin d) : EReal := X (ix3 i j k)

end Cert.KernelIdeal.Val
-- ==== Proof.HostRead.lean ====
/- What the operations between the launches leave in the buffers the launches read, at an element. -/
module

public import proofs.«01_k».proof.Proof.ArrBase
public import proofs.«01_k».proof.Proof.Spec
public import Idealize.ShloMosaic.Lib.KernelVsHost

@[expose] public section

set_option maxRecDepth 16384

noncomputable section

namespace Cert.KernelIdeal.Val

open Cert.KernelIdeal Cert.KernelIdeal.Gen
open Idealize.ShloMosaic Idealize.ShloMosaic.TcCoe Idealize.ShloMosaic.ValueIdx Idealize.ShloMosaic.Pipeline Cert.Spec Idealize.SL.Sem

/-- Contents of every buffer of a device. -/
abbrev Cont := Valuation τ sig (Elt Idealize.ShloMosaic.Ideal)

section
variable (U : Cont)

theorem rd_v0 (i : Fin 2048) (l : Fin 768) :
    rd2 (StableHlo.after hostOps0 U (Proc.devRef .tc main_v0)) i l = rd3 (U (Proc.devRef .tc main_arg0)) 0 i l :=
  shapeCast_1ab_ab_apply (U (Proc.devRef .tc main_arg0)) shapeCasts_S1x2048x768_S2048x768 i l

theorem rd_v1 (i : Fin 2048) (l : Fin 768) :
    rd2 (StableHlo.after hostOps0 U (Proc.devRef .tc main_v1)) i l = rd3 (U (Proc.devRef .tc main_arg2)) 0 i l :=
  shapeCast_1ab_ab_apply (U (Proc.devRef .tc main_arg2)) shapeCasts_S1x2048x768_S2048x768 i l

theorem rd_v5 (e : Fin 2) :
    rd2 (StableHlo.after hostOps0_2 U (Proc.devRef .tc main_v5)) 0 e = (U (Proc.devRef .tc main_arg3) : S2.Idx → EReal) (ix1 e) :=
  shapeCast_apply (s := S2) (U (Proc.devRef .tc main_arg3)) shapeCasts_S2_S1x2 (ix2 0 e) (ix1 e) (by
    rw [Shape.rowMajor_val_one, Shape.rowMajor_val_two]; show e.val = 0 * 2 + e.val; omega)

theorem rd_v2 (i : Fin 768) (e : Fin 36) :
    rd2 (StableHlo.after hostOps0_1 U (Proc.devRef .tc main_v2)) i ⟨e.val, by omega⟩ = rd2 (U (Proc.devRef .tc main_arg12)) i e :=
  pad_apply_of_inside ![0, 0] ![0, 92] ![0, 0] (U (Proc.devRef .tc main_arg12)) _ pads_S768x36_S768x128_000_0920 h_S_
    (ix2 i ⟨e.val, by omega⟩) (ix2 i e) (fun a => match a with
      | ⟨0, _⟩ => by show i.val = 0 + i.val * (0 + 1); omega
      | ⟨1, _⟩ => by show e.val = 0 + e.val * (0 + 1); omega)

/-- The widened weights' pieces, side by side. -/
abbrev parts : List ((s : Shape) × (s.Idx → EReal)) :=
  [⟨S768x768, U (Proc.devRef .tc main_arg4)⟩, ⟨S768x768, U (Proc.devRef .tc main_arg5)⟩, ⟨S768x768, U (Proc.devRef .tc main_arg6)⟩,
    ⟨S768x128, U (Proc.devRef .tc main_v2)⟩]

theorem rd_v4 : StableHlo.after hostOps0_2 U (Proc.devRef .tc main_v4)
    = concatenate S768x2432 1 (parts U) concatenates_S768x768_S768x768_S768x768_S768x128_S768x2432_d1 := rfl

/-- A column of the joined weights is a column of the piece it falls in. -/
theorem parts_apply (k : Nat) (hk : k < (parts U).length) (n pre : Nat) (x : (⟨2, ![768, n]⟩ : Shape).Idx → EReal)
    (hx : (parts U)[k] = ⟨⟨2, ![768, n]⟩, x⟩)
    (hpre : ((((parts U).take k).map (·.1)).map fun s => if h : s.rank = S768x2432.rank then s.size ((1 : Fin S768x2432.rank).cast h.symm) else 0).sum = pre)
    (i : Fin 768) (j : Fin n) (J : Fin 2432) (hJ : J.val = pre + j.val) :
    rd2 (StableHlo.after hostOps0_2 U (Proc.devRef .tc main_v4)) i J = rd2 x i j :=
  (congrFun (rd_v4 U) (ix2 i J)).trans
    (concatenate_apply_piece (1 : Fin S768x2432.rank) (parts U) _ (ix2 i J) k hk ⟨2, ![768, n]⟩ x hx rfl pre hpre (ix2 i j)
      (fun b => match b with
        | ⟨0, _⟩ => fun _ => rfl
        | ⟨1, _⟩ => fun h => absurd rfl h)
      hJ.symm)

/-- Groups of four rows laid end to end. -/
theorem quads (x : S12x2048x64.Idx → EReal) (H : Fin 12) (b : Fin 512) (t : Fin 256) :
    shapeCast S12x512x256 x shapeCasts_S12x2048x64_S12x512x256 (ix3 H b t) = x (ix3 H (crow b t) (lane t)) :=
  shapeCast_apply x shapeCasts_S12x2048x64_S12x512x256 (ix3 H b t) (ix3 H (crow b t) (lane t)) (by
    rw [Shape.rowMajor_val_three, Shape.rowMajor_val_three]
    show (H.val * 2048 + (4 * b.val + t.val / 64)) * 64 + t.val % 64 = (H.val * 512 + b.val) * 256 + t.val
    omega)

theorem rd_v7 (H : Fin 12) (b : Fin 512) (t : Fin 256) :
    rd3 (StableHlo.after hostOps1 U (Proc.devRef .tc main_v7)) H b t = rd3 (U (Proc.devRef .tc main_v6_2)) H (crow b t) (lane t) :=
  quads (U (Proc.devRef .tc main_v6_2)) H b t
theorem rd_v8 (H : Fin 12) (b : Fin 512) (t : Fin 256) :
    rd3 (StableHlo.after hostOps1 U (Proc.devRef .tc main_v8)) H b t = rd3 (U (Proc.devRef .tc main_v6_3)) H (crow b t) (lane t) :=
  quads (U (Proc.devRef .tc main_v6_3)) H b t
theorem rd_v9 : StableHlo.after hostOps1 U (Proc.devRef .tc main_v9) = U (Proc.devRef .tc main_arg10) := rfl
theorem rd_v10 : StableHlo.after hostOps1 U (Proc.devRef .tc main_v10) = U (Proc.devRef .tc main_arg11) := rfl

/-- Four rows of 64 laid end to end. -/
theorem four_rows (x : S4x64.Idx → EReal) (t : Fin 256) :
    shapeCast S1x256 x shapeCasts_S4x64_S1x256 (ix2 0 t) = x (ix2 (quart t) (lane t)) :=
  shapeCast_apply x shapeCasts_S4x64_S1x256 (ix2 0 t) (ix2 (quart t) (lane t)) (by
    rw [Shape.rowMajor_val_two, Shape.rowMajor_val_two]
    show t.val / 64 * 64 + t.val % 64 = 0 * 256 + t.val
    omega)

theorem rd_v12 (t : Fin 256) :
    rd2 (StableHlo.after hostOps1 U (Proc.devRef .tc main_v12)) 0 t = rd2 (U (Proc.devRef .tc main_arg8)) (quart t) (lane t) :=
  four_rows (U (Proc.devRef .tc main_arg8)) t
theorem rd_v14 (t : Fin 256) :
    rd2 (StableHlo.after hostOps1 U (Proc.devRef .tc main_v14)) 0 t = rd2 (U (Proc.devRef .tc main_arg9)) (quart t) (lane t) :=
  four_rows (U (Proc.devRef .tc main_arg9)) t

theorem rd_v16 : StableHlo.after hostOps2 U (Proc.devRef .tc main_v16) = extui 8 (U (Proc.devRef .tc main_arg16)) natLt_1_8 := rfl
theorem rd_v19 : StableHlo.after hostOps3 U (Proc.devRef .tc main_v19) = U (Proc.devRef .tc main_arg7) := rfl
theorem rd_v20 : StableHlo.after hostOps3 U (Proc.devRef .tc main_v20) = U (Proc.devRef .tc main_arg13) := rfl
theorem rd_v21 : StableHlo.after hostOps3 U (Proc.devRef .tc main_v21) = U (Proc.devRef .tc main_arg14) := rfl

theorem rd_v23 (i : Fin 2048) (k : Fin 768) :
    rd3 (StableHlo.after hostOps4 U (Proc.devRef .tc main_v23)) 0 i k = rd2 (U (Proc.devRef .tc main_v22)) i k :=
  broadcastInDim_apply _ bcast_S2048x768_S1x2048x768_1_2 (U (Proc.devRef .tc main_v22)) (ix3 0 i k) (ix2 i k) (fun a => match a with
    | ⟨0, _⟩ => rfl
    | ⟨1, _⟩ => rfl)

end

end Cert.KernelIdeal.Val
-- ==== Proof.Prep.lean ====
/- What the first kernel stores at a grid point: the mixed rows, and each head's columns of the normalised rows' product with the
   four weight matrices side by side. -/
module

public import proofs.«01_k».proof.Proof.ArrBase

@[expose] public section

set_option maxRecDepth 16384

noncomputable section

namespace Cert.KernelIdeal.Val

open Idealize.ShloMosaic Idealize.ShloMosaic.TcCoe Idealize.ShloMosaic.ValueIdx Cert.Soft Cert.Spec Cert.KernelIdeal Cert.KernelIdeal.Gen Idealize.ShloMosaic.Pipeline Idealize.SL.Sem

/-- A head's columns cut out of a wide block: head `hd` has the `W` columns from `base + st * hd`. -/
def headsOf (base st W : Nat) (hb : base + st * 11 + W ≤ 2432) (z : S256x2432.Idx → EReal) (i : (⟨3, ![12, 256, W]⟩ : Shape).Idx) : EReal :=
  z (ix2 (i 1) ⟨base + st * (i 0).val + (i 2).val, by
    have h0 : (i 0).val < 12 := (i 0).isLt
    have h2 : (i 2).val < W := (i 2).isLt
    have h3 : st * (i 0).val ≤ st * 11 := Nat.mul_le_mul_left _ (by omega)
    omega⟩)

/-- A head's store is its part of `headsOf`. -/
theorem cut_piece {φ : FTy} (base st W : Nat) (hb : base + st * 11 + W ≤ 2432) (z : FVec Idealize.ShloMosaic.Ideal S256x2432 φ) (hh off : Nat)
    (ho : off = base + st * hh) (hs : S256x2432.Slices ![0, off] (⟨2, ![256, W]⟩ : Shape))
    (sc : (⟨2, ![256, W]⟩ : Shape).ShapeCasts (⟨3, ![1, 256, W]⟩ : Shape))
    (inb : ∀ a, ![hh, 0, 0] a + (⟨3, ![1, 256, W]⟩ : Shape).size a ≤ (⟨3, ![12, 256, W]⟩ : Shape).size a)
    (x : (⟨3, ![1, 256, W]⟩ : Shape).Idx) :
    Rows.cutV off hs sc z x
      = headsOf base st W hb z ((Rect.unit (s := (⟨3, ![12, 256, W]⟩ : Shape)) ![hh, 0, 0] (⟨3, ![1, 256, W]⟩ : Shape).size inb).emb x) := by
  have h0 : (x 0).val < 1 := (x 0).isLt
  have hx : x = ix3 (x 0) (x 1) (x 2) := idx3 x _ _ _ rfl rfl rfl
  have e := Rows.cutV_apply off hs sc z (x 0) (x 1) (x 2)
    ⟨off + (x 2).val, by
      have h3 : hh + 1 ≤ 12 := inb 0
      have h4 : st * hh ≤ st * 11 := Nat.mul_le_mul_left _ (by omega)
      have h5 : (x 2).val < W := (x 2).isLt
      omega⟩ rfl
  refine (congrArg (Rows.cutV off hs sc z) hx).trans (e.trans ?_)
  unfold headsOf
  refine congrArg z (idx2 _ _ _ ?_ ?_)
  · show (x 1).val = 0 + 1 * (x 1).val; omega
  · show off + (x 2).val = base + st * (hh + 1 * (x 0).val) + (0 + 1 * (x 2).val)
    have h6 : (x 0).val = 0 := by omega
    rw [h6, Nat.mul_zero, Nat.add_zero]; omega

/-- The queries' columns, scaled. -/
def qcols (y : FVec Idealize.ShloMosaic.Ideal S256x2432 .f32) : FVec Idealize.ShloMosaic.Ideal S256x2432 .bf16 :=
  truncf .bf16 (mulf y (broadcast S256x2432 (Scalar.ofBits (F := Idealize.ShloMosaic.Ideal) .f32 0x3E000000#32))) bitsLt_bf16_f32

/-- The keys' and the values' columns. -/
def kcols (y : FVec Idealize.ShloMosaic.Ideal S256x2432 .f32) : FVec Idealize.ShloMosaic.Ideal S256x2432 .bf16 := truncf .bf16 y bitsLt_bf16_f32

/-- The gates' columns. -/
def gcols (y : FVec Idealize.ShloMosaic.Ideal S256x2432 .f32) : FVec Idealize.ShloMosaic.Ideal S256x2432 .f32 := logistic y

/-- A property of each of twelve pieces is one of every piece of their list. -/
theorem all12 {α : Type*} {P : α → Prop} {a0 a1 a2 a3 a4 a5 a6 a7 a8 a9 a10 a11 : α} (h0 : P a0) (h1 : P a1) (h2 : P a2) (h3 : P a3) (h4 : P a4) (h5 : P a5) (h6 : P a6) (h7 : P a7) (h8 : P a8) (h9 : P a9) (h10 : P a10) (h11 : P a11) :
    ∀ p ∈ [a0, a1, a2, a3, a4, a5, a6, a7, a8, a9, a10, a11], P p := by
  simp only [List.forall_mem_cons]
  exact ⟨h0, h1, h2, h3, h4, h5, h6, h7, h8, h9, h10, h11, fun _ h => absurd h List.not_mem_nil⟩

/-- The queries' block. -/
theorem out0_5_eq (x0 x1 : Vec Idealize.ShloMosaic.Ideal S256x768 .f32) (x2 : Vec Idealize.ShloMosaic.Ideal S1x2 .f32) (x3 : Vec Idealize.ShloMosaic.Ideal S768x2432 .bf16) (i : S12x256x64.Idx) :
    out0_5 (F := Idealize.ShloMosaic.Ideal) x0 x1 x2 x3 i = headsOf 0 64 64 (by norm_num) (qcols (k0_pay57 x0 x1 x2 x3)) i := by
  unfold out0_5
  have P (hh off : Nat) (ho hs inb) := cut_piece 0 64 64 (by norm_num) (qcols (k0_pay57 x0 x1 x2 x3)) hh off ho hs shapeCasts_S256x64_S1x256x64 inb
  exact View.canon_apply_of_pieces (headsOf 0 64 64 (by norm_num) (qcols (k0_pay57 x0 x1 x2 x3))) _ (all12
    (P 11 704 rfl slices_S256x2432_o0_704_S256x64 inb_S12x256x64_S1x256x64_11_0_0)
    (P 10 640 rfl slices_S256x2432_o0_640_S256x64 inb_S12x256x64_S1x256x64_10_0_0)
    (P 9 576 rfl slices_S256x2432_o0_576_S256x64 inb_S12x256x64_S1x256x64_9_0_0)
    (P 8 512 rfl slices_S256x2432_o0_512_S256x64 inb_S12x256x64_S1x256x64_8_0_0)
    (P 7 448 rfl slices_S256x2432_o0_448_S256x64 inb_S12x256x64_S1x256x64_7_0_0)
    (P 6 384 rfl slices_S256x2432_o0_384_S256x64 inb_S12x256x64_S1x256x64_6_0_0)
    (P 5 320 rfl slices_S256x2432_o0_320_S256x64 inb_S12x256x64_S1x256x64_5_0_0)
    (P 4 256 rfl slices_S256x2432_o0_256_S256x64 inb_S12x256x64_S1x256x64_4_0_0)
    (P 3 192 rfl slices_S256x2432_o0_192_S256x64 inb_S12x256x64_S1x256x64_3_0_0)
    (P 2 128 rfl slices_S256x2432_o0_128_S256x64 inb_S12x256x64_S1x256x64_2_0_0)
    (P 1 64 rfl slices_S256x2432_o0_64_S256x64 inb_S12x256x64_S1x256x64_1_0_0)
    (P 0 0 rfl slices_S256x2432_o0_0_S256x64 inb_S12x256x64_S1x256x64_0_0_0)) i
    (cover0_5 (F := Idealize.ShloMosaic.Ideal) _ _ _ _ _ _ _ _ _ _ _ _ i)

/-- The keys' block. -/
theorem out0_6_eq (x0 x1 : Vec Idealize.ShloMosaic.Ideal S256x768 .f32) (x2 : Vec Idealize.ShloMosaic.Ideal S1x2 .f32) (x3 : Vec Idealize.ShloMosaic.Ideal S768x2432 .bf16) (i : S12x256x64.Idx) :
    out0_6 (F := Idealize.ShloMosaic.Ideal) x0 x1 x2 x3 i = headsOf 768 64 64 (by norm_num) (kcols (k0_pay57 x0 x1 x2 x3)) i := by
  unfold out0_6
  have P (hh off : Nat) (ho hs inb) := cut_piece 768 64 64 (by norm_num) (kcols (k0_pay57 x0 x1 x2 x3)) hh off ho hs shapeCasts_S256x64_S1x256x64 inb
  exact View.canon_apply_of_pieces (headsOf 768 64 64 (by norm_num) (kcols (k0_pay57 x0 x1 x2 x3))) _ (all12
    (P 11 1472 rfl slices_S256x2432_o0_1472_S256x64 inb_S12x256x64_S1x256x64_11_0_0)
    (P 10 1408 rfl slices_S256x2432_o0_1408_S256x64 inb_S12x256x64_S1x256x64_10_0_0)
    (P 9 1344 rfl slices_S256x2432_o0_1344_S256x64 inb_S12x256x64_S1x256x64_9_0_0)
    (P 8 1280 rfl slices_S256x2432_o0_1280_S256x64 inb_S12x256x64_S1x256x64_8_0_0)
    (P 7 1216 rfl slices_S256x2432_o0_1216_S256x64 inb_S12x256x64_S1x256x64_7_0_0)
    (P 6 1152 rfl slices_S256x2432_o0_1152_S256x64 inb_S12x256x64_S1x256x64_6_0_0)
    (P 5 1088 rfl slices_S256x2432_o0_1088_S256x64 inb_S12x256x64_S1x256x64_5_0_0)
    (P 4 1024 rfl slices_S256x2432_o0_1024_S256x64 inb_S12x256x64_S1x256x64_4_0_0)
    (P 3 960 rfl slices_S256x2432_o0_960_S256x64 inb_S12x256x64_S1x256x64_3_0_0)
    (P 2 896 rfl slices_S256x2432_o0_896_S256x64 inb_S12x256x64_S1x256x64_2_0_0)
    (P 1 832 rfl slices_S256x2432_o0_832_S256x64 inb_S12x256x64_S1x256x64_1_0_0)
    (P 0 768 rfl slices_S256x2432_o0_768_S256x64 inb_S12x256x64_S1x256x64_0_0_0)) i
    (cover0_6 (F := Idealize.ShloMosaic.Ideal) _ _ _ _ _ _ _ _ _ _ _ _ i)

/-- The values' block. -/
theorem out0_7_eq (x0 x1 : Vec Idealize.ShloMosaic.Ideal S256x768 .f32) (x2 : Vec Idealize.ShloMosaic.Ideal S1x2 .f32) (x3 : Vec Idealize.ShloMosaic.Ideal S768x2432 .bf16) (i : S12x256x64.Idx) :
    out0_7 (F := Idealize.ShloMosaic.Ideal) x0 x1 x2 x3 i = headsOf 1536 64 64 (by norm_num) (kcols (k0_pay57 x0 x1 x2 x3)) i := by
  unfold out0_7
  have P (hh off : Nat) (ho hs inb) := cut_piece 1536 64 64 (by norm_num) (kcols (k0_pay57 x0 x1 x2 x3)) hh off ho hs shapeCasts_S256x64_S1x256x64 inb
  exact View.canon_apply_of_pieces (headsOf 1536 64 64 (by norm_num) (kcols (k0_pay57 x0 x1 x2 x3))) _ (all12
    (P 11 2240 rfl slices_S256x2432_o0_2240_S256x64 inb_S12x256x64_S1x256x64_11_0_0)
    (P 10 2176 rfl slices_S256x2432_o0_2176_S256x64 inb_S12x256x64_S1x256x64_10_0_0)
    (P 9 2112 rfl slices_S256x2432_o0_2112_S256x64 inb_S12x256x64_S1x256x64_9_0_0)
    (P 8 2048 rfl slices_S256x2432_o0_2048_S256x64 inb_S12x256x64_S1x256x64_8_0_0)
    (P 7 1984 rfl slices_S256x2432_o0_1984_S256x64 inb_S12x256x64_S1x256x64_7_0_0)
    (P 6 1920 rfl slices_S256x2432_o0_1920_S256x64 inb_S12x256x64_S1x256x64_6_0_0)
    (P 5 1856 rfl slices_S256x2432_o0_1856_S256x64 inb_S12x256x64_S1x256x64_5_0_0)
    (P 4 1792 rfl slices_S256x2432_o0_1792_S256x64 inb_S12x256x64_S1x256x64_4_0_0)
    (P 3 1728 rfl slices_S256x2432_o0_1728_S256x64 inb_S12x256x64_S1x256x64_3_0_0)
    (P 2 1664 rfl slices_S256x2432_o0_1664_S256x64 inb_S12x256x64_S1x256x64_2_0_0)
    (P 1 1600 rfl slices_S256x2432_o0_1600_S256x64 inb_S12x256x64_S1x256x64_1_0_0)
    (P 0 1536 rfl slices_S256x2432_o0_1536_S256x64 inb_S12x256x64_S1x256x64_0_0_0)) i
    (cover0_7 (F := Idealize.ShloMosaic.Ideal) _ _ _ _ _ _ _ _ _ _ _ _ i)

/-- The gates' block. -/
theorem out0_8_eq (x0 x1 : Vec Idealize.ShloMosaic.Ideal S256x768 .f32) (x2 : Vec Idealize.ShloMosaic.Ideal S1x2 .f32) (x3 : Vec Idealize.ShloMosaic.Ideal S768x2432 .bf16) (i : S12x256x4.Idx) :
    out0_8 (F := Idealize.ShloMosaic.Ideal) x0 x1 x2 x3 i = headsOf 2304 3 4 (by norm_num) (gcols (k0_pay57 x0 x1 x2 x3)) i := by
  unfold out0_8
  have P (hh off : Nat) (ho hs inb) := cut_piece 2304 3 4 (by norm_num) (gcols (k0_pay57 x0 x1 x2 x3)) hh off ho hs shapeCasts_S256x4_S1x256x4 inb
  exact View.canon_apply_of_pieces (headsOf 2304 3 4 (by norm_num) (gcols (k0_pay57 x0 x1 x2 x3))) _ (all12
    (P 11 2337 rfl slices_S256x2432_o0_2337_S256x4 inb_S12x256x4_S1x256x4_11_0_0)
    (P 10 2334 rfl slices_S256x2432_o0_2334_S256x4 inb_S12x256x4_S1x256x4_10_0_0)
    (P 9 2331 rfl slices_S256x2432_o0_2331_S256x4 inb_S12x256x4_S1x256x4_9_0_0)
    (P 8 2328 rfl slices_S256x2432_o0_2328_S256x4 inb_S12x256x4_S1x256x4_8_0_0)
    (P 7 2325 rfl slices_S256x2432_o0_2325_S256x4 inb_S12x256x4_S1x256x4_7_0_0)
    (P 6 2322 rfl slices_S256x2432_o0_2322_S256x4 inb_S12x256x4_S1x256x4_6_0_0)
    (P 5 2319 rfl slices_S256x2432_o0_2319_S256x4 inb_S12x256x4_S1x256x4_5_0_0)
    (P 4 2316 rfl slices_S256x2432_o0_2316_S256x4 inb_S12x256x4_S1x256x4_4_0_0)
    (P 3 2313 rfl slices_S256x2432_o0_2313_S256x4 inb_S12x256x4_S1x256x4_3_0_0)
    (P 2 2310 rfl slices_S256x2432_o0_2310_S256x4 inb_S12x256x4_S1x256x4_2_0_0)
    (P 1 2307 rfl slices_S256x2432_o0_2307_S256x4 inb_S12x256x4_S1x256x4_1_0_0)
    (P 0 2304 rfl slices_S256x2432_o0_2304_S256x4 inb_S12x256x4_S1x256x4_0_0_0)) i
    (cover0_8 (F := Idealize.ShloMosaic.Ideal) _ _ _ _ _ _ _ _ _ _ _ _ i)

/-- A mixed row of a block. -/
def mixR (x0 x1 : S256x768.Idx → EReal) (x2 : S1x2.Idx → EReal) (r : Fin 256) (l : Fin 768) : EReal :=
  x2 (ix2 0 0) * x0 (ix2 r l) + x2 (ix2 0 1) * x1 (ix2 r l)

theorem pay5_apply (x0 x1 : Vec Idealize.ShloMosaic.Ideal S256x768 .f32) (x2 : Vec Idealize.ShloMosaic.Ideal S1x2 .f32) (r : Fin 256) (l : Fin 768) :
    k0_pay5 (F := Idealize.ShloMosaic.Ideal) (View.ld x2 r0_0) (View.ld x2 r0_1) x0 x1 (ix2 r l) = mixR x0 x1 x2 r l := by
  show View.ld x2 r0_0 _ * shapeCast S256x768 x0 shapeCasts_S256x768_S256x768 (ix2 r l)
    + View.ld x2 r0_1 _ * shapeCast S256x768 x1 shapeCasts_S256x768_S256x768 (ix2 r l) = _
  rw [shapeCast_self, shapeCast_self]
  exact congrArg₂ (· + ·) (congrArg (· * x0 (ix2 r l)) (congrArg x2 (idx2 _ 0 0 rfl rfl)))
    (congrArg (· * x1 (ix2 r l)) (congrArg x2 (idx2 _ 0 1 rfl rfl)))

theorem out0_4_apply (x0 x1 : Vec Idealize.ShloMosaic.Ideal S256x768 .f32) (x2 : Vec Idealize.ShloMosaic.Ideal S1x2 .f32) (x3 : Vec Idealize.ShloMosaic.Ideal S768x2432 .bf16) (r : Fin 256) (l : Fin 768) :
    out0_4 (F := Idealize.ShloMosaic.Ideal) x0 x1 x2 x3 (ix2 r l) = mixR x0 x1 x2 r l := by
  unfold out0_4
  rw [View.canon_unit_zero hz2, View.ld_unit_zero hz2, View.ld_unit_zero hz2]
  exact pay5_apply x0 x1 x2 r l

/-- The wide product at a row and a column. -/
theorem wide_apply (x0 x1 : Vec Idealize.ShloMosaic.Ideal S256x768 .f32) (x2 : Vec Idealize.ShloMosaic.Ideal S1x2 .f32) (x3 : Vec Idealize.ShloMosaic.Ideal S768x2432 .bf16) (r : Fin 256) (j : Fin 2432) :
    k0_pay57 (F := Idealize.ShloMosaic.Ideal) x0 x1 x2 x3 (ix2 r j) = ∑ l, nrm n768 eps (mixR x0 x1 x2 r) l * x3 (ix2 l j) := by
  unfold k0_pay57
  rw [View.ld_unit_zero hz2, View.ld_unit_zero hz2, View.ld_unit_zero hz2]
  have e : k0_pay6 (F := Idealize.ShloMosaic.Ideal) (View.ld x2 r0_0) (View.ld x2 r0_1) x0 x1 x3
      = Rows.projV nside256 (k0_pay5 (View.ld x2 r0_0) (View.ld x2 r0_1) x0 x1) (shapeCast S768x2432 x3 shapeCasts_S768x2432_S768x2432) := rfl
  rw [e, shapeCast_self]
  refine (Rows.projV_apply nside256 _ x3 r j).trans ?_
  simp only [pay5_apply]

end Cert.KernelIdeal.Val
-- ==== Proof.PrepArr.lean ====
/- The first kernel's five arrays, of the arrays it is given. -/
module

public import proofs.«01_k».proof.Proof.Prep

@[expose] public section

set_option maxRecDepth 16384

noncomputable section

namespace Cert.KernelIdeal.Val

open Idealize.ShloMosaic Idealize.ShloMosaic.TcCoe Idealize.ShloMosaic.ValueIdx Cert.Soft Cert.Spec Cert.KernelIdeal Cert.KernelIdeal.Gen Idealize.ShloMosaic.Pipeline Idealize.SL.Sem

variable (V : (c : Dev nD) → (b : Ref sig .tc) → Buf (Elt Idealize.ShloMosaic.Ideal) ((c : Thread nD τ).loc b))

/-- The array's row that a row of point `t`'s block is. -/
def row0 (t : Fin cfg0.N) (r : Fin 256) : Fin 2048 := ⟨t.val * 256 + r.val, by
  have h : t.val < 8 := t.isLt
  omega⟩

theorem ix0_0 : ∀ t : Fin cfg0.N, win0_0.index t (0 : Fin 2) = t.val ∧ win0_0.index t (1 : Fin 2) = 0 := (by decide +kernel : ∀ t : Fin grid0.N, _)
theorem ix0_1 : ∀ t : Fin cfg0.N, win0_1.index t (0 : Fin 2) = t.val ∧ win0_1.index t (1 : Fin 2) = 0 := (by decide +kernel : ∀ t : Fin grid0.N, _)
theorem ix0_4 : ∀ t : Fin cfg0.N, win0_4.index t (0 : Fin 2) = t.val ∧ win0_4.index t (1 : Fin 2) = 0 := (by decide +kernel : ∀ t : Fin grid0.N, _)
theorem ix0_2 : ∀ t : Fin cfg0.N, win0_2.index t (0 : Fin 2) = 0 ∧ win0_2.index t (1 : Fin 2) = 0 := (by decide +kernel : ∀ t : Fin grid0.N, _)
theorem ix0_3 : ∀ t : Fin cfg0.N, win0_3.index t (0 : Fin 2) = 0 ∧ win0_3.index t (1 : Fin 2) = 0 := (by decide +kernel : ∀ t : Fin grid0.N, _)
theorem ix0_5 : ∀ t : Fin cfg0.N, win0_5.index t (0 : Fin 3) = 0 ∧ win0_5.index t (1 : Fin 3) = t.val ∧ win0_5.index t (2 : Fin 3) = 0 := (by decide +kernel : ∀ t : Fin grid0.N, _)
theorem ix0_6 : ∀ t : Fin cfg0.N, win0_6.index t (0 : Fin 3) = 0 ∧ win0_6.index t (1 : Fin 3) = t.val ∧ win0_6.index t (2 : Fin 3) = 0 := (by decide +kernel : ∀ t : Fin grid0.N, _)
theorem ix0_7 : ∀ t : Fin cfg0.N, win0_7.index t (0 : Fin 3) = 0 ∧ win0_7.index t (1 : Fin 3) = t.val ∧ win0_7.index t (2 : Fin 3) = 0 := (by decide +kernel : ∀ t : Fin grid0.N, _)
theorem ix0_8 : ∀ t : Fin cfg0.N, win0_8.index t (0 : Fin 3) = 0 ∧ win0_8.index t (1 : Fin 3) = t.val ∧ win0_8.index t (2 : Fin 3) = 0 := (by decide +kernel : ∀ t : Fin grid0.N, _)

theorem blk0_0 (c : Dev nD) (t : Fin cfg0.N) (r : Fin 256) (k : Fin 768) : iblk0 V c 0 t (ix2 r k) = V c main_v0 (ix2 (row0 t r) k) := by
  obtain ⟨e0, e1⟩ := ix0_0 t
  show V c main_v0 (((cfg0.win 0).blk t).view.emb (ix2 r k)) = _
  refine congrArg (V c main_v0) (idx2 _ _ _ ?_ ?_)
  · show win0_0.index t (0 : Fin 2) * 256 + 1 * r.val = t.val * 256 + r.val; omega
  · show win0_0.index t (1 : Fin 2) * 768 + 1 * k.val = k.val; omega

theorem blk0_1 (c : Dev nD) (t : Fin cfg0.N) (r : Fin 256) (k : Fin 768) : iblk0 V c 1 t (ix2 r k) = V c main_v1 (ix2 (row0 t r) k) := by
  obtain ⟨e0, e1⟩ := ix0_1 t
  show V c main_v1 (((cfg0.win 1).blk t).view.emb (ix2 r k)) = _
  refine congrArg (V c main_v1) (idx2 _ _ _ ?_ ?_)
  · show win0_1.index t (0 : Fin 2) * 256 + 1 * r.val = t.val * 256 + r.val; omega
  · show win0_1.index t (1 : Fin 2) * 768 + 1 * k.val = k.val; omega

theorem blk0_2 (c : Dev nD) (t : Fin cfg0.N) (r : Fin 1) (k : Fin 2) : iblk0 V c 2 t (ix2 r k) = V c main_v5 (ix2 r k) := by
  obtain ⟨e0, e1⟩ := ix0_2 t
  show V c main_v5 (((cfg0.win 2).blk t).view.emb (ix2 r k)) = _
  refine congrArg (V c main_v5) (idx2 _ _ _ ?_ ?_)
  · show win0_2.index t (0 : Fin 2) * 1 + 1 * r.val = r.val; omega
  · show win0_2.index t (1 : Fin 2) * 2 + 1 * k.val = k.val; omega

theorem blk0_3 (c : Dev nD) (t : Fin cfg0.N) (r : Fin 768) (k : Fin 2432) : iblk0 V c 3 t (ix2 r k) = V c main_v4 (ix2 r k) := by
  obtain ⟨e0, e1⟩ := ix0_3 t
  show V c main_v4 (((cfg0.win 3).blk t).view.emb (ix2 r k)) = _
  refine congrArg (V c main_v4) (idx2 _ _ _ ?_ ?_)
  · show win0_3.index t (0 : Fin 2) * 768 + 1 * r.val = r.val; omega
  · show win0_3.index t (1 : Fin 2) * 2432 + 1 * k.val = k.val; omega

/-- The mixed rows. -/
def mixAt (c : Dev nD) (i : Fin 2048) (l : Fin 768) : EReal :=
  rd2 (V c main_v5) (0 : Fin 1) (0 : Fin 2) * rd2 (V c main_v0) i l + rd2 (V c main_v5) (0 : Fin 1) (1 : Fin 2) * rd2 (V c main_v1) i l

/-- The normalised mixed rows times the wide weights. -/
def wideAt (c : Dev nD) (i : Fin 2048) (j : Fin 2432) : EReal := ∑ l, nrm n768 eps (mixAt V c i) l * rd2 (V c main_v4) l j

theorem mixR_blk (c : Dev nD) (t : Fin cfg0.N) (r : Fin 256) : mixR (iblk0 V c 0 t) (iblk0 V c 1 t) (iblk0 V c 2 t) r = mixAt V c (row0 t r) := by
  funext l
  unfold mixR
  simp only [blk0_0, blk0_1, blk0_2]
  rfl

theorem wide_blk (c : Dev nD) (t : Fin cfg0.N) (r : Fin 256) (j : Fin 2432) :
    k0_pay57 (F := Idealize.ShloMosaic.Ideal) (iblk0 V c 0 t) (iblk0 V c 1 t) (iblk0 V c 2 t) (iblk0 V c 3 t) (ix2 r j) = wideAt V c (row0 t r) j := by
  refine (wide_apply _ _ _ _ r j).trans ?_
  rw [mixR_blk]
  simp only [blk0_3]
  rfl

theorem cov0_4 : (cfg0.win 4).Covers := by decide +kernel
theorem cov0_5 : (cfg0.win 5).Covers := by decide +kernel
theorem cov0_6 : (cfg0.win 6).Covers := by decide +kernel
theorem cov0_7 : (cfg0.win 7).Covers := by decide +kernel
theorem cov0_8 : (cfg0.win 8).Covers := by decide +kernel

theorem emb0_4 (t : Fin cfg0.N) (y : S256x768.Idx) : ((cfg0.win 4).blk t).view.emb y = ix2 (row0 t (y 0)) (y 1) := by
  obtain ⟨e0, e1⟩ := ix0_4 t
  exact idx2 _ _ _ (by show win0_4.index t (0 : Fin 2) * 256 + 1 * (y 0).val = t.val * 256 + (y 0).val; omega)
    (by show win0_4.index t (1 : Fin 2) * 768 + 1 * (y 1).val = (y 1).val; omega)

theorem prep_after4 (c : Dev nD) (t : Fin cfg0.N) (y : S256x768.Idx) : (dat0 V c).after 4 t y = mixAt V c (row0 t (y 0)) (y 1) := by
  rw [after0_4]
  obtain ⟨r, q, rfl⟩ : ∃ (r : Fin 256) (q : Fin 768), y = ix2 r q := ⟨y 0, y 1, idx2 y _ _ rfl rfl⟩
  refine (out0_4_apply _ _ _ _ r q).trans ?_
  rw [mixR_blk]

/-- The mixed rows' array. -/
theorem prep_all4 (c : Dev nD) : (dat0 V c).arrAt 4 cfg0.N = fun x : S2048x768.Idx => mixAt V c (x 0) (x 1) :=
  (dat0 V c).arrAt_eq_of_covers 4 (fun x : S2048x768.Idx => mixAt V c (x 0) (x 1)) cov0_4
    (fun t _ y => (prep_after4 V c t y).trans (congrArg (fun x : S2048x768.Idx => mixAt V c (x 0) (x 1)) (emb0_4 t y).symm))
    (Memref.isWhole_whole _)

/-- Column `d` of head `hd` in the wide product: `W` columns a head, `st` apart, from `base`. -/
def wcol (base st W : Nat) (hb : base + st * 11 + W ≤ 2432) (hd : Fin 12) (d : Fin W) : Fin 2432 :=
  ⟨base + st * hd.val + d.val, by
    have h3 : st * hd.val ≤ st * 11 := Nat.mul_le_mul_left _ (by omega)
    omega⟩

/-- A head's columns of a block of the wide product are those of the array's rows. -/
theorem heads_blk (base st W : Nat) (hb : base + st * 11 + W ≤ 2432) (f : EReal → EReal) (c : Dev nD) (t : Fin cfg0.N) (H : Fin 12) (r : Fin 256) (D : Fin W) :
    headsOf base st W hb (fun i => f (k0_pay57 (F := Idealize.ShloMosaic.Ideal) (iblk0 V c 0 t) (iblk0 V c 1 t) (iblk0 V c 2 t) (iblk0 V c 3 t) i)) (ix3 H r D)
      = f (wideAt V c (row0 t r) (wcol base st W hb H D)) :=
  congrArg f (wide_blk V c t r (wcol base st W hb H D))

/-- The queries' array, by its coordinates. -/
def qArr (c : Dev nD) (x : S12x2048x64.Idx) : EReal := wideAt V c (x 1) (wcol 0 64 64 (by norm_num) (x 0) (x 2)) * c8

theorem emb0_5 (t : Fin cfg0.N) (y : S12x256x64.Idx) : ((cfg0.win 5).blk t).view.emb y = ix3 (y 0) (row0 t (y 1)) (y 2) := by
  obtain ⟨e0, e1, e2⟩ := ix0_5 t
  exact idx3 _ _ _ _ (by show win0_5.index t (0 : Fin 3) * 12 + 1 * (y 0).val = (y 0).val; omega)
    (by show win0_5.index t (1 : Fin 3) * 256 + 1 * (y 1).val = t.val * 256 + (y 1).val; omega)
    (by show win0_5.index t (2 : Fin 3) * 64 + 1 * (y 2).val = (y 2).val; omega)

theorem q_step (c : Dev nD) (t : Fin cfg0.N) (y : S12x256x64.Idx) :
    (dat0 V c).after 5 t y = qArr V c (((cfg0.win 5).blk t).view.emb y) := by
  rw [emb0_5, after0_5]
  obtain ⟨H, r, D, rfl⟩ : ∃ (H : Fin 12) (r : Fin 256) (D : Fin 64), y = ix3 H r D := ⟨y 0, y 1, y 2, idx3 y _ _ _ rfl rfl rfl⟩
  exact (out0_5_eq _ _ _ _ (ix3 H r D)).trans (heads_blk V 0 64 64 (by norm_num) (fun z => z * c8) c t H r D)

theorem q_all (c : Dev nD) : (dat0 V c).arrAt 5 cfg0.N = qArr V c :=
  (dat0 V c).arrAt_eq_of_covers 5 (qArr V c) cov0_5 (fun t _ y => q_step V c t y) (Memref.isWhole_whole _)

/-- The keys' array, by its coordinates. -/
def kArr (c : Dev nD) (x : S12x2048x64.Idx) : EReal := wideAt V c (x 1) (wcol 768 64 64 (by norm_num) (x 0) (x 2))

theorem emb0_6 (t : Fin cfg0.N) (y : S12x256x64.Idx) : ((cfg0.win 6).blk t).view.emb y = ix3 (y 0) (row0 t (y 1)) (y 2) := by
  obtain ⟨e0, e1, e2⟩ := ix0_6 t
  exact idx3 _ _ _ _ (by show win0_6.index t (0 : Fin 3) * 12 + 1 * (y 0).val = (y 0).val; omega)
    (by show win0_6.index t (1 : Fin 3) * 256 + 1 * (y 1).val = t.val * 256 + (y 1).val; omega)
    (by show win0_6.index t (2 : Fin 3) * 64 + 1 * (y 2).val = (y 2).val; omega)

theorem k_step (c : Dev nD) (t : Fin cfg0.N) (y : S12x256x64.Idx) :
    (dat0 V c).after 6 t y = kArr V c (((cfg0.win 6).blk t).view.emb y) := by
  rw [emb0_6, after0_6]
  obtain ⟨H, r, D, rfl⟩ : ∃ (H : Fin 12) (r : Fin 256) (D : Fin 64), y = ix3 H r D := ⟨y 0, y 1, y 2, idx3 y _ _ _ rfl rfl rfl⟩
  exact (out0_6_eq _ _ _ _ (ix3 H r D)).trans (heads_blk V 768 64 64 (by norm_num) (fun z => z) c t H r D)

theorem k_all (c : Dev nD) : (dat0 V c).arrAt 6 cfg0.N = kArr V c :=
  (dat0 V c).arrAt_eq_of_covers 6 (kArr V c) cov0_6 (fun t _ y => k_step V c t y) (Memref.isWhole_whole _)

/-- The values' array, by its coordinates. -/
def vArr (c : Dev nD) (x : S12x2048x64.Idx) : EReal := wideAt V c (x 1) (wcol 1536 64 64 (by norm_num) (x 0) (x 2))

theorem emb0_7 (t : Fin cfg0.N) (y : S12x256x64.Idx) : ((cfg0.win 7).blk t).view.emb y = ix3 (y 0) (row0 t (y 1)) (y 2) := by
  obtain ⟨e0, e1, e2⟩ := ix0_7 t
  exact idx3 _ _ _ _ (by show win0_7.index t (0 : Fin 3) * 12 + 1 * (y 0).val = (y 0).val; omega)
    (by show win0_7.index t (1 : Fin 3) * 256 + 1 * (y 1).val = t.val * 256 + (y 1).val; omega)
    (by show win0_7.index t (2 : Fin 3) * 64 + 1 * (y 2).val = (y 2).val; omega)

theorem v_step (c : Dev nD) (t : Fin cfg0.N) (y : S12x256x64.Idx) :
    (dat0 V c).after 7 t y = vArr V c (((cfg0.win 7).blk t).view.emb y) := by
  rw [emb0_7, after0_7]
  obtain ⟨H, r, D, rfl⟩ : ∃ (H : Fin 12) (r : Fin 256) (D : Fin 64), y = ix3 H r D := ⟨y 0, y 1, y 2, idx3 y _ _ _ rfl rfl rfl⟩
  exact (out0_7_eq _ _ _ _ (ix3 H r D)).trans (heads_blk V 1536 64 64 (by norm_num) (fun z => z) c t H r D)

theorem v_all (c : Dev nD) : (dat0 V c).arrAt 7 cfg0.N = vArr V c :=
  (dat0 V c).arrAt_eq_of_covers 7 (vArr V c) cov0_7 (fun t _ y => v_step V c t y) (Memref.isWhole_whole _)

/-- The gates' array, by its coordinates. -/
def gArr (c : Dev nD) (x : S12x2048x4.Idx) : EReal := Idealize.ShloMosaic.Ideal.logistic (wideAt V c (x 1) (wcol 2304 3 4 (by norm_num) (x 0) (x 2)))

theorem emb0_8 (t : Fin cfg0.N) (y : S12x256x4.Idx) : ((cfg0.win 8).blk t).view.emb y = ix3 (y 0) (row0 t (y 1)) (y 2) := by
  obtain ⟨e0, e1, e2⟩ := ix0_8 t
  exact idx3 _ _ _ _ (by show win0_8.index t (0 : Fin 3) * 12 + 1 * (y 0).val = (y 0).val; omega)
    (by show win0_8.index t (1 : Fin 3) * 256 + 1 * (y 1).val = t.val * 256 + (y 1).val; omega)
    (by show win0_8.index t (2 : Fin 3) * 4 + 1 * (y 2).val = (y 2).val; omega)

theorem g_step (c : Dev nD) (t : Fin cfg0.N) (y : S12x256x4.Idx) :
    (dat0 V c).after 8 t y = gArr V c (((cfg0.win 8).blk t).view.emb y) := by
  rw [emb0_8, after0_8]
  obtain ⟨H, r, D, rfl⟩ : ∃ (H : Fin 12) (r : Fin 256) (D : Fin 4), y = ix3 H r D := ⟨y 0, y 1, y 2, idx3 y _ _ _ rfl rfl rfl⟩
  exact (out0_8_eq _ _ _ _ (ix3 H r D)).trans (heads_blk V 2304 3 4 (by norm_num) (Idealize.ShloMosaic.Ideal.logistic) c t H r D)

theorem g_all (c : Dev nD) : (dat0 V c).arrAt 8 cfg0.N = gArr V c :=
  (dat0 V c).arrAt_eq_of_covers 8 (gArr V c) cov0_8 (fun t _ y => g_step V c t y) (Memref.isWhole_whole _)

end Cert.KernelIdeal.Val
-- ==== Proof.Chain.lean ====
/- The first launch's operands and results in terms of the arguments. -/
module

public import proofs.«01_k».proof.Proof.HostRead
public import proofs.«01_k».proof.Proof.PrepArr

@[expose] public section

set_option maxRecDepth 16384

noncomputable section

namespace Cert.KernelIdeal.Val

open Cert.KernelIdeal Cert.KernelIdeal.Gen
open Idealize.ShloMosaic Idealize.ShloMosaic.TcCoe Idealize.ShloMosaic.ValueIdx Idealize.ShloMosaic.Pipeline Cert.Spec Cert.Soft Idealize.SL.Sem

variable (m : (ℓ : Loc nD τ sig) → Buf (Elt Idealize.ShloMosaic.Ideal) ℓ) (ρ : Dev nD → PrngReg) (c : Dev nD)

/-- The arguments as the launch memory holds them. -/
def inp : In where
  a0 := m ((c : Thread nD τ).loc main_arg0)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)
  a10 := m ((c : Thread nD τ).loc main_arg10)
  a11 := m ((c : Thread nD τ).loc main_arg11)
  a12 := m ((c : Thread nD τ).loc main_arg12)
  a13 := m ((c : Thread nD τ).loc main_arg13)
  a14 := m ((c : Thread nD τ).loc main_arg14)
  a15 := m ((c : Thread nD τ).loc main_arg15)
  a16 := m ((c : Thread nD τ).loc main_arg16)

theorem in_v0 (i : Fin 2048) (l : Fin 768) : rd2 (V3 m ρ c main_v0) i l = (inp m c).a0 (ix3 0 i l) :=
  (congrFun ((W3_of m ρ c main_v0 (by decide)).trans (W2_of m ρ c main_v0 (by decide))) (ix2 i l)).trans (rd_v0 (W0 m ρ c) i l)

theorem in_v1 (i : Fin 2048) (l : Fin 768) : rd2 (V3 m ρ c main_v1) i l = (inp m c).a2 (ix3 0 i l) :=
  (congrFun ((W3_of m ρ c main_v1 (by decide)).trans (W2_of m ρ c main_v1 (by decide))) (ix2 i l)).trans (rd_v1 (W0 m ρ c) i l)

theorem in_v5 (e : Fin 2) : rd2 (V3 m ρ c main_v5) 0 e = (inp m c).a3 (ix1 e) :=
  (rd_v5 (W2 m ρ c) e).trans (congrFun (W2_args m ρ c main_arg3 (by decide)) (ix1 e))

theorem in_q (i : Fin 768) (J : Fin 2432) (j : Fin 768) (h : J.val = 0 + j.val) : rd2 (V3 m ρ c main_v4) i J = (inp m c).a4 (ix2 i j) :=
  (parts_apply (W2 m ρ c) 0 (show 0 < 4 by decide) 768 0 _ rfl rfl i j J h).trans (congrFun (W2_args m ρ c main_arg4 (by decide)) (ix2 i j))

theorem in_k (i : Fin 768) (J : Fin 2432) (j : Fin 768) (h : J.val = 768 + j.val) : rd2 (V3 m ρ c main_v4) i J = (inp m c).a5 (ix2 i j) :=
  (parts_apply (W2 m ρ c) 1 (show 1 < 4 by decide) 768 768 _ rfl rfl i j J h).trans (congrFun (W2_args m ρ c main_arg5 (by decide)) (ix2 i j))

theorem in_v (i : Fin 768) (J : Fin 2432) (j : Fin 768) (h : J.val = 1536 + j.val) : rd2 (V3 m ρ c main_v4) i J = (inp m c).a6 (ix2 i j) :=
  (parts_apply (W2 m ρ c) 2 (show 2 < 4 by decide) 768 1536 _ rfl rfl i j J h).trans (congrFun (W2_args m ρ c main_arg6 (by decide)) (ix2 i j))

theorem in_g (i : Fin 768) (J : Fin 2432) (e : Fin 36) (h : J.val = 2304 + e.val) : rd2 (V3 m ρ c main_v4) i J = (inp m c).a12 (ix2 i e) :=
  (parts_apply (W2 m ρ c) 3 (show 3 < 4 by decide) 128 2304 _ rfl rfl i ⟨e.val, by omega⟩ J h).trans
    ((rd_v2 (W1 m ρ c) i e).trans (congrFun (W1_args m ρ c main_arg12 (by decide)) (ix2 i e)))

theorem mix_eq (i : Fin 2048) (l : Fin 768) : mixAt (V3 m ρ) c i l = (inp m c).x1 i l := by
  unfold mixAt In.x1
  rw [in_v0, in_v1, in_v5, in_v5]

/-- A column of the wide product is the norm's row against that piece's column. -/
theorem wide_of (i : Fin 2048) (J : Fin 2432) (w : Fin 768 → EReal) (h : ∀ l, rd2 (V3 m ρ c main_v4) l J = w l) :
    wideAt (V3 m ρ) c i J = ∑ l, (inp m c).h i l * w l := by
  unfold wideAt In.h
  rw [show mixAt (V3 m ρ) c i = (inp m c).x1 i from funext fun l => mix_eq m ρ c i l]
  exact Finset.sum_congr rfl fun l _ => by rw [h l]

theorem x1_out (i : Fin 2048) (l : Fin 768) : rd2 (W4 m ρ c (Proc.devRef .tc main_v6_0)) i l = (inp m c).x1 i l :=
  (congrFun ((W4_arr m ρ c 4).trans (prep_all4 (V3 m ρ) c)) (ix2 i l)).trans (mix_eq m ρ c i l)

theorem q_out (H : Fin 12) (i : Fin 2048) (d : Fin 64) : rd3 (W4 m ρ c (Proc.devRef .tc main_v6_1)) H i d = (inp m c).q H i d * c8 :=
  (congrFun ((W4_arr m ρ c 5).trans (q_all (V3 m ρ) c)) (ix3 H i d)).trans
    (congrArg (· * c8) (wide_of m ρ c i _ _ fun l => in_q m ρ c l _ (col H d) (by show 0 + 64 * H.val + d.val = 0 + (64 * H.val + d.val); omega)))

theorem k_out (H : Fin 12) (i : Fin 2048) (d : Fin 64) : rd3 (W4 m ρ c (Proc.devRef .tc main_v6_2)) H i d = (inp m c).k H i d :=
  (congrFun ((W4_arr m ρ c 6).trans (k_all (V3 m ρ) c)) (ix3 H i d)).trans
    (wide_of m ρ c i _ _ fun l => in_k m ρ c l _ (col H d) (by show 768 + 64 * H.val + d.val = 768 + (64 * H.val + d.val); omega))

theorem v_out (H : Fin 12) (i : Fin 2048) (d : Fin 64) : rd3 (W4 m ρ c (Proc.devRef .tc main_v6_3)) H i d = (inp m c).v H i d :=
  (congrFun ((W4_arr m ρ c 7).trans (v_all (V3 m ρ) c)) (ix3 H i d)).trans
    (wide_of m ρ c i _ _ fun l => in_v m ρ c l _ (col H d) (by show 1536 + 64 * H.val + d.val = 1536 + (64 * H.val + d.val); omega))

theorem g_out (H : Fin 12) (i : Fin 2048) (u : Fin 3) :
    rd3 (W4 m ρ c (Proc.devRef .tc main_v6_4)) H i ⟨u.val, by omega⟩ = (inp m c).g H i u :=
  (congrFun ((W4_arr m ρ c 8).trans (g_all (V3 m ρ) c)) (ix3 H i ⟨u.val, by omega⟩)).trans
    (congrArg Idealize.ShloMosaic.Ideal.logistic (wide_of m ρ c i _ _ fun l => in_g m ρ c l _ (gcol H u) (by
      show 2304 + 3 * H.val + u.val = 2304 + (3 * H.val + u.val); omega)))

end Cert.KernelIdeal.Val
-- ==== Proof.Comp.lean ====
/- The compression kernel's two arrays, of the arrays it is given. -/
module

public import proofs.«01_k».proof.Proof.ArrBase

@[expose] public section

set_option maxRecDepth 16384

noncomputable section

namespace Cert.KernelIdeal.Val

open Idealize.ShloMosaic Idealize.ShloMosaic.TcCoe Idealize.ShloMosaic.ValueIdx Cert.Soft Cert.Spec Cert.KernelIdeal Cert.KernelIdeal.Gen Idealize.ShloMosaic.Pipeline Idealize.SL.Sem

theorem k1_apply (p : FVec Idealize.ShloMosaic.Ideal S1x256 .bf16) (w : FVec Idealize.ShloMosaic.Ideal S256x64 .bf16) (a : FVec Idealize.ShloMosaic.Ideal S1x512x256 .bf16) (r : Fin 512) (c : Fin 64) :
    k1_pay2 (F := Idealize.ShloMosaic.Ideal) p w a w (ix3 0 r c) = (∑ j, a (ix3 0 r j) * w (ix2 j c)) + ∑ j, p (ix2 0 j) * w (ix2 j c) := by
  have e : k1_pay2 (F := Idealize.ShloMosaic.Ideal) p w a w = shapeCast S1x512x64 (truncf .bf16 (Rows.compV broadcasts_S1x64_S512x64
      (shapeCast S512x256 a shapeCasts_S1x512x256_S512x256) (shapeCast S1x256 p shapeCasts_S1x256_S1x256)
      (shapeCast S256x64 w shapeCasts_S256x64_S256x64)) bitsLt_bf16_f32) shapeCasts_S512x64_S1x512x64 := rfl
  rw [e]
  refine (shapeCast_ab_1ab_apply _ _ 0 r c).trans ?_
  refine (Rows.compV_apply _ _ _ _ (by norm_num) r c).trans ?_
  simp only [shapeCast_self]
  refine congrArg (· + _) (Finset.sum_congr rfl fun j _ => congrArg (· * w (ix2 j c)) ?_)
  exact shapeCast_1ab_ab_apply a _ r j

/-- The second output's payload is the first's function of the other operands. -/
theorem k1_same (p : FVec Idealize.ShloMosaic.Ideal S1x256 .bf16) (w : FVec Idealize.ShloMosaic.Ideal S256x64 .bf16) (a : FVec Idealize.ShloMosaic.Ideal S1x512x256 .bf16) :
    k1_pay1 (F := Idealize.ShloMosaic.Ideal) (k1_pay3 p w a w) = k1_pay2 p w a w := rfl

theorem out1_6_apply (x0 x1 : Vec Idealize.ShloMosaic.Ideal S1x512x256 .bf16) (x2 x3 : Vec Idealize.ShloMosaic.Ideal S256x64 .bf16) (x4 x5 : Vec Idealize.ShloMosaic.Ideal S1x256 .bf16) (r : Fin 512) (c : Fin 64) :
    out1_6 (F := Idealize.ShloMosaic.Ideal) x0 x1 x2 x3 x4 x5 (ix3 0 r c) = (∑ j, x0 (ix3 0 r j) * x2 (ix2 j c)) + ∑ j, x4 (ix2 0 j) * x2 (ix2 j c) := by
  unfold out1_6
  rw [View.canon_unit_zero hz3, View.ld_unit_zero hz2, View.ld_unit_zero hz2, View.ld_unit_zero hz3]
  exact k1_apply x4 x2 x0 r c

theorem out1_7_apply (x0 x1 : Vec Idealize.ShloMosaic.Ideal S1x512x256 .bf16) (x2 x3 : Vec Idealize.ShloMosaic.Ideal S256x64 .bf16) (x4 x5 : Vec Idealize.ShloMosaic.Ideal S1x256 .bf16) (r : Fin 512) (c : Fin 64) :
    out1_7 (F := Idealize.ShloMosaic.Ideal) x0 x1 x2 x3 x4 x5 (ix3 0 r c) = (∑ j, x1 (ix3 0 r j) * x3 (ix2 j c)) + ∑ j, x5 (ix2 0 j) * x3 (ix2 j c) := by
  unfold out1_7
  rw [View.canon_unit_zero hz3, View.ld_unit_zero hz2, View.ld_unit_zero hz2, View.ld_unit_zero hz3, k1_same]
  exact k1_apply x5 x3 x1 r c

variable (V : (c : Dev nD) → (b : Ref sig .tc) → Buf (Elt Idealize.ShloMosaic.Ideal) ((c : Thread nD τ).loc b))

/-- The head of a grid point. -/
def hd12 (t : Fin cfg1.N) : Fin 12 := ⟨t.val, t.isLt⟩

theorem ix1_0 : ∀ t : Fin cfg1.N, win1_0.index t (0 : Fin 3) = t.val ∧ win1_0.index t (1 : Fin 3) = 0 ∧ win1_0.index t (2 : Fin 3) = 0 := (by decide +kernel : ∀ t : Fin grid1.N, _)
theorem ix1_1 : ∀ t : Fin cfg1.N, win1_1.index t (0 : Fin 3) = t.val ∧ win1_1.index t (1 : Fin 3) = 0 ∧ win1_1.index t (2 : Fin 3) = 0 := (by decide +kernel : ∀ t : Fin grid1.N, _)
theorem ix1_6 : ∀ t : Fin cfg1.N, win1_6.index t (0 : Fin 3) = t.val ∧ win1_6.index t (1 : Fin 3) = 0 ∧ win1_6.index t (2 : Fin 3) = 0 := (by decide +kernel : ∀ t : Fin grid1.N, _)
theorem ix1_7 : ∀ t : Fin cfg1.N, win1_7.index t (0 : Fin 3) = t.val ∧ win1_7.index t (1 : Fin 3) = 0 ∧ win1_7.index t (2 : Fin 3) = 0 := (by decide +kernel : ∀ t : Fin grid1.N, _)
theorem ix1_2 : ∀ t : Fin cfg1.N, win1_2.index t (0 : Fin 2) = 0 ∧ win1_2.index t (1 : Fin 2) = 0 := (by decide +kernel : ∀ t : Fin grid1.N, _)
theorem ix1_3 : ∀ t : Fin cfg1.N, win1_3.index t (0 : Fin 2) = 0 ∧ win1_3.index t (1 : Fin 2) = 0 := (by decide +kernel : ∀ t : Fin grid1.N, _)
theorem ix1_4 : ∀ t : Fin cfg1.N, win1_4.index t (0 : Fin 2) = 0 ∧ win1_4.index t (1 : Fin 2) = 0 := (by decide +kernel : ∀ t : Fin grid1.N, _)
theorem ix1_5 : ∀ t : Fin cfg1.N, win1_5.index t (0 : Fin 2) = 0 ∧ win1_5.index t (1 : Fin 2) = 0 := (by decide +kernel : ∀ t : Fin grid1.N, _)

theorem blk1_0 (c : Dev nD) (t : Fin cfg1.N) (r : Fin 512) (k : Fin 256) : iblk1 V c 0 t (ix3 0 r k) = V c main_v7 (ix3 (hd12 t) r k) := by
  obtain ⟨e0, e1, e2⟩ := ix1_0 t
  show V c main_v7 (((cfg1.win 0).blk t).view.emb (ix3 0 r k)) = _
  refine congrArg (V c main_v7) (idx3 _ _ _ _ ?_ ?_ ?_)
  · show win1_0.index t (0 : Fin 3) * 1 + 1 * 0 = t.val; omega
  · show win1_0.index t (1 : Fin 3) * 512 + 1 * r.val = r.val; omega
  · show win1_0.index t (2 : Fin 3) * 256 + 1 * k.val = k.val; omega

theorem blk1_1 (c : Dev nD) (t : Fin cfg1.N) (r : Fin 512) (k : Fin 256) : iblk1 V c 1 t (ix3 0 r k) = V c main_v8 (ix3 (hd12 t) r k) := by
  obtain ⟨e0, e1, e2⟩ := ix1_1 t
  show V c main_v8 (((cfg1.win 1).blk t).view.emb (ix3 0 r k)) = _
  refine congrArg (V c main_v8) (idx3 _ _ _ _ ?_ ?_ ?_)
  · show win1_1.index t (0 : Fin 3) * 1 + 1 * 0 = t.val; omega
  · show win1_1.index t (1 : Fin 3) * 512 + 1 * r.val = r.val; omega
  · show win1_1.index t (2 : Fin 3) * 256 + 1 * k.val = k.val; omega

theorem blk1_2 (c : Dev nD) (t : Fin cfg1.N) (r : Fin 256) (k : Fin 64) : iblk1 V c 2 t (ix2 r k) = V c main_v9 (ix2 r k) := by
  obtain ⟨e0, e1⟩ := ix1_2 t
  show V c main_v9 (((cfg1.win 2).blk t).view.emb (ix2 r k)) = _
  refine congrArg (V c main_v9) (idx2 _ _ _ ?_ ?_)
  · show win1_2.index t (0 : Fin 2) * 256 + 1 * r.val = r.val; omega
  · show win1_2.index t (1 : Fin 2) * 64 + 1 * k.val = k.val; omega

theorem blk1_3 (c : Dev nD) (t : Fin cfg1.N) (r : Fin 256) (k : Fin 64) : iblk1 V c 3 t (ix2 r k) = V c main_v10 (ix2 r k) := by
  obtain ⟨e0, e1⟩ := ix1_3 t
  show V c main_v10 (((cfg1.win 3).blk t).view.emb (ix2 r k)) = _
  refine congrArg (V c main_v10) (idx2 _ _ _ ?_ ?_)
  · show win1_3.index t (0 : Fin 2) * 256 + 1 * r.val = r.val; omega
  · show win1_3.index t (1 : Fin 2) * 64 + 1 * k.val = k.val; omega

theorem blk1_4 (c : Dev nD) (t : Fin cfg1.N) (r : Fin 1) (k : Fin 256) : iblk1 V c 4 t (ix2 r k) = V c main_v12 (ix2 r k) := by
  obtain ⟨e0, e1⟩ := ix1_4 t
  show V c main_v12 (((cfg1.win 4).blk t).view.emb (ix2 r k)) = _
  refine congrArg (V c main_v12) (idx2 _ _ _ ?_ ?_)
  · show win1_4.index t (0 : Fin 2) * 1 + 1 * r.val = r.val; omega
  · show win1_4.index t (1 : Fin 2) * 256 + 1 * k.val = k.val; omega

theorem blk1_5 (c : Dev nD) (t : Fin cfg1.N) (r : Fin 1) (k : Fin 256) : iblk1 V c 5 t (ix2 r k) = V c main_v14 (ix2 r k) := by
  obtain ⟨e0, e1⟩ := ix1_5 t
  show V c main_v14 (((cfg1.win 5).blk t).view.emb (ix2 r k)) = _
  refine congrArg (V c main_v14) (idx2 _ _ _ ?_ ?_)
  · show win1_5.index t (0 : Fin 2) * 1 + 1 * r.val = r.val; omega
  · show win1_5.index t (1 : Fin 2) * 256 + 1 * k.val = k.val; omega

/-- A compressed row at a head coordinate: the head's rows' product with the weights plus the position row's. -/
def compAt (X : S12x512x256.Idx → EReal) (p : S1x256.Idx → EReal) (w : S256x64.Idx → EReal) (hd : Fin 12) (r : Fin 512) (d : Fin 64) : EReal :=
  (∑ j, X (ix3 hd r j) * w (ix2 j d)) + ∑ j, p (ix2 0 j) * w (ix2 j d)

theorem cov1_6 : (cfg1.win 6).Covers := by decide +kernel

theorem emb1_6 (t : Fin cfg1.N) (y : S1x512x64.Idx) : ((cfg1.win 6).blk t).view.emb y = ix3 (hd12 t) (y 1) (y 2) := by
  obtain ⟨e0, e1, e2⟩ := ix1_6 t
  have h0 : (y 0).val < 1 := (y 0).isLt
  exact idx3 _ _ _ _ (by show win1_6.index t (0 : Fin 3) * 1 + 1 * (y 0).val = t.val; omega)
    (by show win1_6.index t (1 : Fin 3) * 512 + 1 * (y 1).val = (y 1).val; omega)
    (by show win1_6.index t (2 : Fin 3) * 64 + 1 * (y 2).val = (y 2).val; omega)

theorem comp_after6 (c : Dev nD) (t : Fin cfg1.N) (y : S1x512x64.Idx) :
    (dat1 V c).after 6 t y = compAt (V c main_v7) (V c main_v12) (V c main_v9) (hd12 t) (y 1) (y 2) := by
  rw [after1_6]
  obtain ⟨r, q, rfl⟩ : ∃ (r : Fin 512) (q : Fin 64), y = ix3 0 r q :=
    ⟨y 1, y 2, idx3 y _ _ _ (by have h0 : (y 0).val < 1 := (y 0).isLt; show (y 0).val = 0; omega) rfl rfl⟩
  refine (out1_6_apply _ _ _ _ _ _ r q).trans ?_
  simp only [blk1_0, blk1_4, blk1_2]
  rfl

theorem comp_all6 (c : Dev nD) : (dat1 V c).arrAt 6 cfg1.N
    = fun x : S12x512x64.Idx => compAt (V c main_v7) (V c main_v12) (V c main_v9) (x 0) (x 1) (x 2) :=
  (dat1 V c).arrAt_eq_of_covers 6 (fun x : S12x512x64.Idx => compAt (V c main_v7) (V c main_v12) (V c main_v9) (x 0) (x 1) (x 2)) cov1_6
    (fun t _ y => (comp_after6 V c t y).trans
      (congrArg (fun x : S12x512x64.Idx => compAt (V c main_v7) (V c main_v12) (V c main_v9) (x 0) (x 1) (x 2)) (emb1_6 t y).symm))
    (Memref.isWhole_whole _)

theorem cov1_7 : (cfg1.win 7).Covers := by decide +kernel

theorem emb1_7 (t : Fin cfg1.N) (y : S1x512x64.Idx) : ((cfg1.win 7).blk t).view.emb y = ix3 (hd12 t) (y 1) (y 2) := by
  obtain ⟨e0, e1, e2⟩ := ix1_7 t
  have h0 : (y 0).val < 1 := (y 0).isLt
  exact idx3 _ _ _ _ (by show win1_7.index t (0 : Fin 3) * 1 + 1 * (y 0).val = t.val; omega)
    (by show win1_7.index t (1 : Fin 3) * 512 + 1 * (y 1).val = (y 1).val; omega)
    (by show win1_7.index t (2 : Fin 3) * 64 + 1 * (y 2).val = (y 2).val; omega)

theorem comp_after7 (c : Dev nD) (t : Fin cfg1.N) (y : S1x512x64.Idx) :
    (dat1 V c).after 7 t y = compAt (V c main_v8) (V c main_v14) (V c main_v10) (hd12 t) (y 1) (y 2) := by
  rw [after1_7]
  obtain ⟨r, q, rfl⟩ : ∃ (r : Fin 512) (q : Fin 64), y = ix3 0 r q :=
    ⟨y 1, y 2, idx3 y _ _ _ (by have h0 : (y 0).val < 1 := (y 0).isLt; show (y 0).val = 0; omega) rfl rfl⟩
  refine (out1_7_apply _ _ _ _ _ _ r q).trans ?_
  simp only [blk1_1, blk1_5, blk1_3]
  rfl

theorem comp_all7 (c : Dev nD) : (dat1 V c).arrAt 7 cfg1.N
    = fun x : S12x512x64.Idx => compAt (V c main_v8) (V c main_v14) (V c main_v10) (x 0) (x 1) (x 2) :=
  (dat1 V c).arrAt_eq_of_covers 7 (fun x : S12x512x64.Idx => compAt (V c main_v8) (V c main_v14) (V c main_v10) (x 0) (x 1) (x 2)) cov1_7
    (fun t _ y => (comp_after7 V c t y).trans
      (congrArg (fun x : S12x512x64.Idx => compAt (V c main_v8) (V c main_v14) (V c main_v10) (x 0) (x 1) (x 2)) (emb1_7 t y).symm))
    (Memref.isWhole_whole _)

end Cert.KernelIdeal.Val
-- ==== Proof.AttnOps.lean ====
/- One head of the attention kernel on a block of 512 rows, as the printed operations state it at any number of columns, and what
   it computes at a row and a head coordinate. -/
module

public import proofs.«01_k».proof.Proof.Ops

@[expose] public section

noncomputable section

namespace Cert.Attn

open Idealize.ShloMosaic Idealize.ShloMosaic.ValueIdx Cert.Soft Cert.Ops

/-- A rank-two shape. -/
abbrev Sh (a b : Nat) : Shape := ⟨2, ![a, b]⟩
/-- A rank-one shape. -/
abbrev S1d (a : Nat) : Shape := ⟨1, ![a]⟩

/-- The side conditions of one softmax branch over `n` columns. -/
structure Side (n : Nat) : Prop where
  red : (Sh 512 n).Reduces [1] (S1d 512)
  hφ : FKind.Formats FTy.f32
  hmax : (0xFF800000#32 : BitVec 32) = FKind.maximumf.neutral FTy.f32 hφ
  hadd : (0x00000000#32 : BitVec 32) = FKind.add.neutral FTy.f32 hφ
  bc : (Sh 512 1).Broadcasts (Sh 512 n)
  sc : (S1d 512).ShapeCasts (Sh 512 1)
  bc64 : (Sh 512 1).Broadcasts (Sh 512 64)
  hb : FTy.bf16.bits < FTy.f32.bits

variable {n : Nat}

/-- The scores plus the mask's addend. -/
def scores (q : FVec Ideal (Sh 512 64) .bf16) (k : FVec Ideal (Sh n 64) .bf16) (msk : FVec Ideal (Sh 512 n) .f32) : FVec Ideal (Sh 512 n) .f32 :=
  addf (matmul (DotDims.transposedRhs 512 64 n) none q k (constant (F := Ideal) (Sh 512 n) .f32 0x00000000#32)) msk

/-- The row maxima as a column. -/
def rmax (S : Side n) (s : FVec Ideal (Sh 512 n) .f32) : FVec Ideal (Sh 512 1) .f32 :=
  shapeCast (Sh 512 1) (multiReduction (F := Ideal) .maximumf [1] (S1d 512) s 0xFF800000#32 S.red S.hφ S.hmax) S.sc

/-- The row sums as a column. -/
def rsum (S : Side n) (s : FVec Ideal (Sh 512 n) .f32) : FVec Ideal (Sh 512 1) .f32 :=
  shapeCast (Sh 512 1) (multiReduction (F := Ideal) .add [1] (S1d 512) s 0x00000000#32 S.red S.hφ S.hadd) S.sc

/-- The exponentials of the scores less a column. -/
def expo (S : Side n) (s : FVec Ideal (Sh 512 n) .f32) (mcol : FVec Ideal (Sh 512 1) .f32) : FVec Ideal (Sh 512 n) .f32 :=
  exp (subf s (broadcastTo (Sh 512 n) mcol S.bc))

/-- The weights' product with the values. -/
def wsum (S : Side n) (p : FVec Ideal (Sh 512 n) .f32) (v : FVec Ideal (Sh n 64) .bf16) : FVec Ideal (Sh 512 64) .f32 :=
  matmul (DotDims.plain 512 n 64) none (truncf .bf16 p S.hb) v (constant (F := Ideal) (Sh 512 64) .f32 0x00000000#32)

/-- A masked softmax branch. -/
def branch (S : Side n) (q : FVec Ideal (Sh 512 64) .bf16) (k : FVec Ideal (Sh n 64) .bf16) (msk : FVec Ideal (Sh 512 n) .f32)
    (v : FVec Ideal (Sh n 64) .bf16) : FVec Ideal (Sh 512 64) .f32 :=
  divf (wsum S (expo S (scores q k msk) (rmax S (scores q k msk))) v)
    (broadcastTo (Sh 512 64) (rsum S (expo S (scores q k msk) (rmax S (scores q k msk)))) S.bc64)

/-- The maximum with zero of the row maxima. -/
def cmax (S : Side n) (s : FVec Ideal (Sh 512 n) .f32) : FVec Ideal (Sh 512 1) .f32 :=
  maximumf (rmax S s) (broadcast (Sh 512 1) (Scalar.ofBits (F := Ideal) .f32 0x00000000#32))

/-- The compressed branch: a softmax with a zero column kept apart. -/
def cbranch (S : Side n) (q : FVec Ideal (Sh 512 64) .bf16) (k : FVec Ideal (Sh n 64) .bf16) (msk : FVec Ideal (Sh 512 n) .f32)
    (v : FVec Ideal (Sh n 64) .bf16) : FVec Ideal (Sh 512 64) .f32 :=
  divf (wsum S (expo S (scores q k msk) (cmax S (scores q k msk))) v)
    (broadcastTo (Sh 512 64) (addf (rsum S (expo S (scores q k msk) (cmax S (scores q k msk))))
      (exp (subf (broadcast (Sh 512 1) (Scalar.ofBits (F := Ideal) .f32 0x00000000#32)) (cmax S (scores q k msk))))) S.bc64)

/-- The side conditions of the gates. -/
structure GateSide : Prop where
  s0 : (Sh 512 4).Slices ![0, 0] (Sh 512 1)
  s1 : (Sh 512 4).Slices ![0, 1] (Sh 512 1)
  s2 : (Sh 512 4).Slices ![0, 2] (Sh 512 1)
  bc64 : (Sh 512 1).Broadcasts (Sh 512 64)

/-- The three branches, gated and added. -/
def gated (G : GateSide) (g : FVec Ideal (Sh 512 4) .f32) (a b c : FVec Ideal (Sh 512 64) .f32) : FVec Ideal (Sh 512 64) .f32 :=
  addf (addf (mulf (broadcastTo (Sh 512 64) (extractStridedSlice (Sh 512 1) ![0, 0] g G.s0) G.bc64) a)
      (mulf (broadcastTo (Sh 512 64) (extractStridedSlice (Sh 512 1) ![0, 1] g G.s1) G.bc64) b))
    (mulf (broadcastTo (Sh 512 64) (extractStridedSlice (Sh 512 1) ![0, 2] g G.s2) G.bc64) c)

theorem scores_apply (q : FVec Ideal (Sh 512 64) .bf16) (k : FVec Ideal (Sh n 64) .bf16) (msk : FVec Ideal (Sh 512 n) .f32)
    (r : Fin 512) (c : Fin n) : scores q k msk (ix2 r c) = (∑ e, q (ix2 r e) * k (ix2 c e)) + msk (ix2 r c) := by
  unfold scores
  rw [addf_apply]
  refine congrArg (· + msk (ix2 r c)) ?_
  refine (Ideal.matmul_transposedRhs_apply none q k _ r c).trans ?_
  rw [constant_apply, ofBits_zero, zero_add]

theorem rmax_apply (S : Side n) (s : FVec Ideal (Sh 512 n) .f32) (r : Fin 512) (u : Fin 1) :
    rmax S s (ix2 r u) = mx fun c => s (ix2 r c) :=
  (shapeCast_a_a1_apply _ _ r u).trans (rowMax s S.red S.hφ S.hmax r)

theorem rsum_apply (S : Side n) (s : FVec Ideal (Sh 512 n) .f32) (r : Fin 512) (u : Fin 1) :
    rsum S s (ix2 r u) = ∑ c, s (ix2 r c) :=
  (shapeCast_a_a1_apply _ _ r u).trans (rowSum s _ S.red S.hφ S.hadd r)

theorem expo_apply (S : Side n) (s : FVec Ideal (Sh 512 n) .f32) (mcol : FVec Ideal (Sh 512 1) .f32) (r : Fin 512) (c : Fin n) :
    expo S s mcol (ix2 r c) = Ideal.exp (s (ix2 r c) - mcol (ix2 r 0)) := by
  show Ideal.exp (s (ix2 r c) - broadcastTo (Sh 512 n) mcol S.bc (ix2 r c)) = _
  rw [spread]

theorem wsum_apply (S : Side n) (p : FVec Ideal (Sh 512 n) .f32) (v : FVec Ideal (Sh n 64) .bf16) (r : Fin 512) (d : Fin 64) :
    wsum S p v (ix2 r d) = ∑ c, p (ix2 r c) * v (ix2 c d) := by
  refine (Ideal.matmul_plain_apply none _ v _ r d).trans ?_
  rw [constant_apply, ofBits_zero, zero_add]
  rfl

theorem branch_apply (S : Side n) (q : FVec Ideal (Sh 512 64) .bf16) (k : FVec Ideal (Sh n 64) .bf16) (msk : FVec Ideal (Sh 512 n) .f32)
    (v : FVec Ideal (Sh n 64) .bf16) (r : Fin 512) (d : Fin 64) :
    branch S q k msk v (ix2 r d)
      = softK (fun c => (∑ e, q (ix2 r e) * k (ix2 c e)) + msk (ix2 r c)) (fun c => v (ix2 c d)) := by
  unfold branch softK
  rw [divf_apply, wsum_apply, spread, rsum_apply]
  simp only [expo_apply, rmax_apply, scores_apply]

theorem cmax_apply (S : Side n) (s : FVec Ideal (Sh 512 n) .f32) (r : Fin 512) (u : Fin 1) :
    cmax S s (ix2 r u) = max (mx fun c => s (ix2 r c)) 0 := by
  unfold cmax
  rw [maximumf_apply, rmax_apply]
  exact congrArg (max _) ofBits_zero

theorem cbranch_apply (S : Side n) (q : FVec Ideal (Sh 512 64) .bf16) (k : FVec Ideal (Sh n 64) .bf16) (msk : FVec Ideal (Sh 512 n) .f32)
    (v : FVec Ideal (Sh n 64) .bf16) (r : Fin 512) (d : Fin 64) :
    cbranch S q k msk v (ix2 r d)
      = softC (fun c => (∑ e, q (ix2 r e) * k (ix2 c e)) + msk (ix2 r c)) (fun c => v (ix2 c d)) := by
  unfold cbranch softC
  rw [divf_apply, wsum_apply, spread, addf_apply, rsum_apply]
  show Ideal.div _ (_ + Ideal.exp (Ideal.ofBits .f32 0x00000000#32 - cmax S (scores q k msk) (ix2 r 0))) = _
  rw [ofBits_zero]
  simp only [expo_apply, cmax_apply, scores_apply]

theorem gated_apply (G : GateSide) (g : FVec Ideal (Sh 512 4) .f32) (a b c : FVec Ideal (Sh 512 64) .f32) (r : Fin 512) (d : Fin 64) :
    gated G g a b c (ix2 r d)
      = g (ix2 r 0) * a (ix2 r d) + g (ix2 r 1) * b (ix2 r d) + g (ix2 r 2) * c (ix2 r d) := by
  unfold gated
  rw [addf_apply, addf_apply, mulf_apply, mulf_apply, mulf_apply, spread, spread, spread]
  rw [extractStridedSlice_apply ![0, 0] g G.s0 (ix2 r 0) (ix2 r 0) (fun a => by match a with | ⟨0, _⟩ => simp [ix2] | ⟨1, _⟩ => rfl),
    extractStridedSlice_apply ![0, 1] g G.s1 (ix2 r 0) (ix2 r 1) (fun a => by match a with | ⟨0, _⟩ => simp [ix2] | ⟨1, _⟩ => rfl),
    extractStridedSlice_apply ![0, 2] g G.s2 (ix2 r 0) (ix2 r 2) (fun a => by match a with | ⟨0, _⟩ => simp [ix2] | ⟨1, _⟩ => rfl)]

end Cert.Attn
-- ==== Proof.Masks.lean ====
/- The masks of the attention kernel: what the index comparisons say, and the addends they select. -/
module

public import proofs.«01_k».proof.Proof.AttnOps

@[expose] public section

noncomputable section

namespace Cert.Attn

open Idealize.ShloMosaic Idealize.ShloMosaic.ValueIdx Cert.Soft Cert.Ops

/-- The addend of the compressed branch: zero where every key of the block lies at or before the query. -/
def cM (base r c : Nat) : EReal := if (c + 1) * 4 - 1 ≤ base + r then 0 else ⊥
/-- The addend of the sliding window: zero at the query's own position and the 31 before it. -/
def sM (base r c : Nat) : EReal := if c ≤ base + r ∧ base + r - c < 32 then 0 else ⊥
/-- The addend read off a selection word. -/
def fM (b : BitVec 8) : EReal := (FloatOps.sitofp (F := Ideal) .f32 b - 1) * ⊤

theorem fM_one : fM 1#8 = 0 := by
  show ((((1#8 : BitVec 8).toInt : ℝ) : EReal) - 1) * ⊤ = 0
  have : (1#8 : BitVec 8).toInt = 1 := by decide
  rw [this]
  have h : (((1 : ℤ) : ℝ) : EReal) - 1 = 0 := by
    rw [show (1 : EReal) = ((1 : ℝ) : EReal) from rfl, ← EReal.coe_sub]; norm_num
  rw [h, zero_mul]

theorem fM_zero : fM 0#8 = ⊥ := by
  show ((((0#8 : BitVec 8).toInt : ℝ) : EReal) - 1) * ⊤ = ⊥
  have : (0#8 : BitVec 8).toInt = 0 := by decide
  rw [this]
  have h : (((0 : ℤ) : ℝ) : EReal) - 1 = ((-1 : ℝ) : EReal) := by
    rw [show (1 : EReal) = ((1 : ℝ) : EReal) from rfl, ← EReal.coe_sub]; norm_num
  rw [h, EReal.coe_mul_top_of_neg (by norm_num)]

theorem toInt_small {a : Nat} (ha : a < 2 ^ 20) : (BitVec.ofNat 32 a).toInt = a := by
  have hn : (BitVec.ofNat 32 a).toNat = a := by
    rw [BitVec.toNat_ofNat]; exact Nat.mod_eq_of_lt (by omega)
  rw [BitVec.toInt_eq_toNat_cond, hn, if_pos (by omega)]

theorem ofNat_sub {a b : Nat} (h : b ≤ a) : BitVec.ofNat 32 a - BitVec.ofNat 32 b = BitVec.ofNat 32 (a - b) := by
  apply BitVec.eq_of_toNat_eq
  simp only [BitVec.toNat_sub, BitVec.toNat_ofNat]
  omega

/-- The signed comparison of two small words. -/
theorem sle_small {a b : Nat} (ha : a < 2 ^ 20) (hb : b < 2 ^ 20) :
    IntOp.cmpi .sle (BitVec.ofNat 32 a) (BitVec.ofNat 32 b) = if a ≤ b then 1#1 else 0#1 := by
  show BitVec.ofBool ((BitVec.ofNat 32 a).sle (BitVec.ofNat 32 b)) = _
  have : (BitVec.ofNat 32 a).sle (BitVec.ofNat 32 b) = decide (a ≤ b) := by
    rw [Bool.eq_iff_iff, BitVec.sle_iff_toInt_le, toInt_small ha, toInt_small hb]
    simp
  rw [this]
  by_cases h : a ≤ b <;> simp [h]

theorem slt_small {a b : Nat} (ha : a < 2 ^ 20) (hb : b < 2 ^ 20) :
    IntOp.cmpi .slt (BitVec.ofNat 32 a) (BitVec.ofNat 32 b) = if a < b then 1#1 else 0#1 := by
  show BitVec.ofBool ((BitVec.ofNat 32 a).slt (BitVec.ofNat 32 b)) = _
  have : (BitVec.ofNat 32 a).slt (BitVec.ofNat 32 b) = decide (a < b) := by
    rw [Bool.eq_iff_iff, BitVec.slt_iff_toInt_lt, toInt_small ha, toInt_small hb]
    simp
  rw [this]
  by_cases h : a < b <;> simp [h]

/-- The comparison of the compressed mask: key block `c` ends at or before row `a`. -/
theorem cword {a c : Nat} (ha : a < 2 ^ 16) (hc : c < 2 ^ 16) :
    IntOp.cmpi .sle ((BitVec.ofNat 32 c + 1#32) * 4#32 - 1#32) (BitVec.ofNat 32 a) = if (c + 1) * 4 - 1 ≤ a then 1#1 else 0#1 := by
  have h : (BitVec.ofNat 32 c + 1#32) * 4#32 - 1#32 = BitVec.ofNat 32 ((c + 1) * 4 - 1) := by
    rw [← ofNat_sub (by omega : 1 ≤ (c + 1) * 4), BitVec.ofNat_mul, BitVec.ofNat_add]
  rw [h, sle_small (by omega) (by omega)]

/-- The two comparisons of the sliding window together. -/
theorem sword {a b : Nat} (ha : a < 2 ^ 16) (hb : b < 2 ^ 16) :
    IntOp.cmpi .sle (BitVec.ofNat 32 b) (BitVec.ofNat 32 a) &&& IntOp.cmpi .slt (BitVec.ofNat 32 a - BitVec.ofNat 32 b) 32#32
      = if b ≤ a ∧ a - b < 32 then 1#1 else 0#1 := by
  rw [sle_small (by omega) (by omega)]
  by_cases h : b ≤ a
  · rw [if_pos h, ofNat_sub h, slt_small (by omega) (by norm_num)]
    by_cases h2 : a - b < 32 <;> simp [h, h2]
  · rw [if_neg h, if_neg (fun h' => h h'.1)]
    simp

variable {n : Nat}

/-- The compressed mask's addends as the kernel writes them. -/
def cmV (n : Nat) (base : BitVec 32) (κm : EReal) (i0 : (Sh 512 n).Iotas .tc 32 [0]) (i1 : (Sh 512 n).Iotas .tc 32 [1]) : FVec Ideal (Sh 512 n) .f32 :=
  select (cmpi .sle (subi (muli (addi (iota .tc (Sh 512 n) 32 [1] i1) (broadcast (Sh 512 n) 1#32)) (broadcast (Sh 512 n) 4#32)) (broadcast (Sh 512 n) 1#32))
    (addi (broadcast (Sh 512 n) base) (iota .tc (Sh 512 n) 32 [0] i0)))
    (broadcast (Sh 512 n) (Scalar.ofBits (F := Ideal) .f32 0x00000000#32)) (broadcast (Sh 512 n) κm)

theorem cmV_apply (base : Nat) (κm : EReal) (hκ : κm = ⊥) (i0 i1) (hb : base < 2 ^ 12) (hn : n ≤ 2 ^ 12) (r : Fin 512) (c : Fin n) :
    cmV n (BitVec.ofNat 32 base) κm i0 i1 (ix2 r c) = cM base r.val c.val := by
  have h : cmpi .sle (subi (muli (addi (iota .tc (Sh 512 n) 32 [1] i1) (broadcast (Sh 512 n) 1#32)) (broadcast (Sh 512 n) 4#32)) (broadcast (Sh 512 n) 1#32))
    (addi (broadcast (Sh 512 n) (BitVec.ofNat 32 base)) (iota .tc (Sh 512 n) 32 [0] i0)) (ix2 r c)
      = if (c.val + 1) * 4 - 1 ≤ base + r.val then 1#1 else 0#1 := by
    have hr := r.isLt; have hc := c.isLt
    refine Eq.trans ?_ (cword (a := base + r.val) (c := c.val) (by omega) (by omega))
    rw [BitVec.ofNat_add]
    show IntOp.cmpi .sle ((BitVec.ofNat 32 (0 * _ + c.val) + 1#32) * 4#32 - 1#32) (BitVec.ofNat 32 base + BitVec.ofNat 32 (0 * _ + r.val)) = _
    rw [Nat.zero_mul, Nat.zero_mul, Nat.zero_add, Nat.zero_add]
  unfold cmV cM
  rw [select_apply, h]
  split
  · rw [select_one]; exact ofBits_zero
  · rw [select_zero]; exact hκ

/-- The sliding window's addends as the kernel writes them. -/
def smV (n : Nat) (base s0 : BitVec 32) (κm : EReal) (i0 : (Sh 512 n).Iotas .tc 32 [0]) (i1 : (Sh 512 n).Iotas .tc 32 [1]) : FVec Ideal (Sh 512 n) .f32 :=
  select (andi (cmpi .sle (addi (broadcast (Sh 512 n) s0) (iota .tc (Sh 512 n) 32 [1] i1)) (addi (broadcast (Sh 512 n) base) (iota .tc (Sh 512 n) 32 [0] i0)))
    (cmpi .slt (subi (addi (broadcast (Sh 512 n) base) (iota .tc (Sh 512 n) 32 [0] i0)) (addi (broadcast (Sh 512 n) s0) (iota .tc (Sh 512 n) 32 [1] i1))) (broadcast (Sh 512 n) 32#32)))
    (broadcast (Sh 512 n) (Scalar.ofBits (F := Ideal) .f32 0x00000000#32)) (broadcast (Sh 512 n) κm)

theorem smV_apply (base s0 : Nat) (κm : EReal) (hκ : κm = ⊥) (i0 i1) (hb : base < 2 ^ 12) (hs : s0 < 2 ^ 12) (hn : n ≤ 2 ^ 12) (r : Fin 512) (c : Fin n) :
    smV n (BitVec.ofNat 32 base) (BitVec.ofNat 32 s0) κm i0 i1 (ix2 r c) = sM base r.val (s0 + c.val) := by
  have h : andi (cmpi .sle (addi (broadcast (Sh 512 n) (BitVec.ofNat 32 s0)) (iota .tc (Sh 512 n) 32 [1] i1)) (addi (broadcast (Sh 512 n) (BitVec.ofNat 32 base)) (iota .tc (Sh 512 n) 32 [0] i0)))
    (cmpi .slt (subi (addi (broadcast (Sh 512 n) (BitVec.ofNat 32 base)) (iota .tc (Sh 512 n) 32 [0] i0)) (addi (broadcast (Sh 512 n) (BitVec.ofNat 32 s0)) (iota .tc (Sh 512 n) 32 [1] i1))) (broadcast (Sh 512 n) 32#32)) (ix2 r c)
      = if s0 + c.val ≤ base + r.val ∧ base + r.val - (s0 + c.val) < 32 then 1#1 else 0#1 := by
    have hr := r.isLt; have hc := c.isLt
    refine Eq.trans ?_ (sword (a := base + r.val) (b := s0 + c.val) (by omega) (by omega))
    rw [BitVec.ofNat_add, BitVec.ofNat_add]
    show IntOp.cmpi .sle (BitVec.ofNat 32 s0 + BitVec.ofNat 32 (0 * _ + c.val)) (BitVec.ofNat 32 base + BitVec.ofNat 32 (0 * _ + r.val))
      &&& IntOp.cmpi .slt (BitVec.ofNat 32 base + BitVec.ofNat 32 (0 * _ + r.val) - (BitVec.ofNat 32 s0 + BitVec.ofNat 32 (0 * _ + c.val))) 32#32 = _
    rw [Nat.zero_mul, Nat.zero_mul, Nat.zero_add, Nat.zero_add]
  unfold smV sM
  rw [select_apply, h]
  split
  · rw [select_one]; exact ofBits_zero
  · rw [select_zero]; exact hκ

/-- The selection mask's addends as the kernel writes them. -/
def fmV (n : Nat) (x : IVec (Sh 512 n) 8) (κu : EReal) (h : (Sh 512 n).ShapeCasts (Sh 512 n)) : FVec Ideal (Sh 512 n) .f32 :=
  mulf (subf (sitofp .f32 (shapeCast (Sh 512 n) x h)) (broadcast (Sh 512 n) (Scalar.ofBits (F := Ideal) .f32 0x3F800000#32))) (broadcast (Sh 512 n) κu)

theorem fmV_apply (x : IVec (Sh 512 n) 8) (κu : EReal) (hκ : κu = ⊤) (h) (r : Fin 512) (c : Fin n) :
    fmV n x κu h (ix2 r c) = fM (x (ix2 r c)) := by
  subst hκ
  have e : shapeCast (Sh 512 n) x h (ix2 r c) = x (ix2 r c) := by rw [shapeCast_self]
  unfold fmV fM
  rw [mulf_apply, subf_apply, sitofp_apply, e]
  show (_ - Ideal.ofBits .f32 0x3F800000#32) * ⊤ = _
  rw [ofBits_one]

end Cert.Attn
-- ==== Proof.Head.lean ====
/- One head's output at a row, over all columns, and that the columns a block of rows leaves out do not count. -/
module

public import proofs.«01_k».proof.Proof.Masks
public import Idealize.ShloMosaic.Lib.Pipeline.ValueKit.Tiles

@[expose] public section

noncomputable section

namespace Cert.Attn

open Idealize.ShloMosaic Idealize.ShloMosaic.ValueIdx Cert.Soft Cert.Ops

/-- The three gated branches of one head at the row `base + r`, over all key columns. -/
def headOut (base r : Nat) (Q : Fin 64 → EReal) (K V : Fin 2048 → Fin 64 → EReal) (CK CV : Fin 512 → Fin 64 → EReal)
    (FM : Fin 2048 → EReal) (g : Fin 4 → EReal) (d : Fin 64) : EReal :=
  g 0 * softC (fun c => (∑ e, Q e * CK c e) + cM base r c.val) (fun c => CV c d)
    + g 1 * softK (fun c => (∑ e, Q e * K c e) + FM c) (fun c => V c d)
    + g 2 * softK (fun c => (∑ e, Q e * K c e) + sM base r c.val) (fun c => V c d)

/-- One head's printed operations on a block of 512 rows. -/
def headV {W CB SB : Nat} (SC : Side CB) (SF : Side W) (SS : Side SB) (G : GateSide) (q : FVec Ideal (Sh 512 64) .bf16)
    (kW vW : FVec Ideal (Sh W 64) .bf16) (ck cv : FVec Ideal (Sh CB 64) .bf16) (kS vS : FVec Ideal (Sh SB 64) .bf16)
    (cm : FVec Ideal (Sh 512 CB) .f32) (fm : FVec Ideal (Sh 512 W) .f32) (sm : FVec Ideal (Sh 512 SB) .f32)
    (g : FVec Ideal (Sh 512 4) .f32) : FVec Ideal (Sh 512 64) .f32 :=
  gated G g (cbranch SC q ck cm cv) (branch SF q kW fm vW) (branch SS q kS sm vS)

/-- The columns a block works on suffice: the others' scores are −∞. -/
theorem headV_apply {W CB SB : Nat} (SC : Side CB) (SF : Side W) (SS : Side SB) (G : GateSide) (q : FVec Ideal (Sh 512 64) .bf16)
    (kW vW : FVec Ideal (Sh W 64) .bf16) (ck cv : FVec Ideal (Sh CB 64) .bf16) (kS vS : FVec Ideal (Sh SB 64) .bf16)
    (cm : FVec Ideal (Sh 512 CB) .f32) (fm : FVec Ideal (Sh 512 W) .f32) (sm : FVec Ideal (Sh 512 SB) .f32)
    (g : FVec Ideal (Sh 512 4) .f32) (base s0 : Nat) (hW : W ≤ 2048) (hCB : CB ≤ 512) (hSB : s0 + SB ≤ 2048)
    (hbW : base + 512 ≤ W) (hbC : base + 512 ≤ 4 * CB) (hbS : base + 512 ≤ s0 + SB) (hs : s0 = 0 ∨ s0 + 32 ≤ base)
    (Q : Fin 64 → EReal) (K V : Fin 2048 → Fin 64 → EReal) (CK CV : Fin 512 → Fin 64 → EReal)
    (FM : Fin 2048 → EReal) (Gt : Fin 4 → EReal) (r : Fin 512) (d : Fin 64)
    (hq : ∀ e, q (ix2 r e) = Q e)
    (hk : ∀ c e, kW (ix2 c e) = K (Fin.castLE hW c) e) (hv : ∀ c e, vW (ix2 c e) = V (Fin.castLE hW c) e)
    (hck : ∀ c e, ck (ix2 c e) = CK (Fin.castLE hCB c) e) (hcv : ∀ c e, cv (ix2 c e) = CV (Fin.castLE hCB c) e)
    (hkS : ∀ (c : Fin SB) e, kS (ix2 c e) = K ⟨s0 + c.val, by omega⟩ e) (hvS : ∀ (c : Fin SB) e, vS (ix2 c e) = V ⟨s0 + c.val, by omega⟩ e)
    (hcm : ∀ c, cm (ix2 r c) = cM base r.val c.val) (hfm : ∀ c, fm (ix2 r c) = FM (Fin.castLE hW c))
    (hsm : ∀ c, sm (ix2 r c) = sM base r.val (s0 + c.val)) (hg : ∀ u, g (ix2 r u) = Gt u)
    (hFM : ∀ c : Fin 2048, base + r.val < c.val → FM c = ⊥) :
    headV SC SF SS G q kW vW ck cv kS vS cm fm sm g (ix2 r d) = headOut base r.val Q K V CK CV FM Gt d := by
  have hr := r.isLt
  unfold headV headOut
  rw [gated_apply, cbranch_apply, branch_apply, branch_apply, hg, hg, hg]
  simp only [hq, hk, hv, hck, hcv, hkS, hvS, hcm, hfm, hsm]
  congr 1
  · congr 1
    · congr 1
      exact softC_embed (fun c => Fin.castLE hCB c) (Fin.castLE_injective hCB)
        (fun c => (∑ e, Q e * CK c e) + cM base r.val c.val) (fun c => CV c d) fun j hj => by
          have : CB ≤ j.val := by
            by_contra h
            exact hj ⟨j.val, by omega⟩ (Fin.ext rfl)
          have h2 : cM base r.val j.val = ⊥ := if_neg (by omega)
          simp only [h2, EReal.add_bot]
    · congr 1
      exact softK_embed (fun c => Fin.castLE hW c) (Fin.castLE_injective hW)
        (fun c => (∑ e, Q e * K c e) + FM c) (fun c => V c d) fun j hj => by
          have : W ≤ j.val := by
            by_contra h
            exact hj ⟨j.val, by omega⟩ (Fin.ext rfl)
          simp only [hFM j (by omega), EReal.add_bot]
  · congr 1
    exact softK_embed (fun c : Fin SB => (⟨s0 + c.val, by omega⟩ : Fin 2048)) (fun a b h => by simpa [Fin.ext_iff] using h)
      (fun c => (∑ e, Q e * K c e) + sM base r.val c.val) (fun c => V c d) fun j hj => by
        have : j.val < s0 ∨ s0 + SB ≤ j.val := by
          by_contra h
          exact hj ⟨j.val - s0, by omega⟩ (Fin.ext (by simp; omega))
        have h2 : sM base r.val j.val = ⊥ := if_neg (by omega)
        simp only [h2, EReal.add_bot]

/-- A slab of a rank-three block, read as a matrix. -/
theorem slab {A B n h : Nat} {e : EltTy} {H : Nat} (X : (⟨3, ![H, A, B]⟩ : Shape).Idx → Elt Ideal e) (hh : h < H) (hn : n ≤ A) (inb)
    (hc : (⟨3, ![1, n, B]⟩ : Shape).ShapeCasts (Sh n B)) (r : Fin n) (d : Fin B) :
    shapeCast (Sh n B) (View.ld (S := ⟨3, ![H, A, B]⟩) X (Rect.unit ![h, 0, 0] ![1, n, B] inb)) hc (ix2 r d)
      = X (ix3 ⟨h, hh⟩ (Fin.castLE hn r) d) := by
  refine (shapeCast_1ab_ab_apply _ hc r d).trans ?_
  exact View.ld_unit_apply_of X _ _ inb _ _ fun a => by
    match a with
    | ⟨0, _⟩ => rfl
    | ⟨1, _⟩ => exact (Nat.zero_add _).symm
    | ⟨2, _⟩ => exact (Nat.zero_add _).symm

/-- The leading columns of a matrix block. -/
theorem lead {A B n : Nat} {e : EltTy} (X : (⟨2, ![A, B]⟩ : Shape).Idx → Elt Ideal e) (hn : n ≤ B) (inb) (r : Fin A) (c : Fin n) :
    View.ld (S := ⟨2, ![A, B]⟩) X (Rect.unit ![0, 0] ![A, n] inb) (ix2 r c) = X (ix2 r (Fin.castLE hn c)) :=
  View.ld_unit_apply_of X _ _ inb _ _ fun a => by
    match a with
    | ⟨0, _⟩ => exact (Nat.zero_add _).symm
    | ⟨1, _⟩ => exact (Nat.zero_add _).symm

/-- The column half holding column `64·h + d` of two heads' outputs set side by side. -/
theorem heads_apply (a b : FVec Ideal (Sh 512 64) .f32) (hcat : Shape.Concatenates [Sh 512 64, Sh 512 64] (Sh 512 128) 1)
    (hb : FTy.bf16.bits < FTy.f32.bits) (r : Fin 512) (h : Fin 2) (d : Fin 64) :
    truncf .bf16 (concatenate (Sh 512 128) 1 [⟨Sh 512 64, a⟩, ⟨Sh 512 64, b⟩] hcat) hb (ix2 r ⟨64 * h.val + d.val, by omega⟩)
      = if h = 0 then a (ix2 r d) else b (ix2 r d) := by
  show concatenate (Sh 512 128) 1 [⟨Sh 512 64, a⟩, ⟨Sh 512 64, b⟩] hcat (ix2 r ⟨64 * h.val + d.val, by omega⟩) = _
  match h with
  | ⟨0, _⟩ =>
    refine concatenate_pair_apply_left 1 a b hcat _ rfl (ix2 r d) fun b => ?_
    match b with
    | ⟨0, _⟩ => rfl
    | ⟨1, _⟩ => show d.val = 64 * 0 + d.val; omega
  | ⟨1, _⟩ =>
    refine concatenate_pair_apply_right 1 a b hcat _ rfl rfl (ix2 r d) (fun b hb => ?_) ?_
    · match b with
      | ⟨0, _⟩ => rfl
      | ⟨1, _⟩ => exact absurd rfl hb
    · show d.val + 64 = 64 * 1 + d.val; omega

end Cert.Attn
-- ==== Proof.CaseBase.lean ====
/- The names the attention kernel's row blocks share: its printed side conditions, its mask constants, a block's output. -/
module

public import proofs.«01_k».proof.Proof.Head
public import proofs.«01_k».proof.Proof.Gen.KernelIdeal.Frame

@[expose] public section

set_option maxRecDepth 16384

noncomputable section

namespace Cert.KernelIdeal.Val

open Idealize.ShloMosaic Idealize.ShloMosaic.ValueIdx Cert.Soft Cert.Attn Cert.KernelIdeal Cert.KernelIdeal.Gen

/-- The mask constant, −∞. -/
abbrev κm : EReal := Named.named (F := Idealize.ShloMosaic.Ideal) (φ := .f32) Cert.KernelIdeal.κ "mask" 0xCE6E6B28#32
/-- The unmask constant, +∞. -/
abbrev κu : EReal := Named.named (F := Idealize.ShloMosaic.Ideal) (φ := .f32) Cert.KernelIdeal.κ "unmask" 0x4E6E6B28#32

theorem κm_eq : κm = ⊥ := IdealRules.named_const.ideal_named_scalar _ _ _ _ rfl
theorem κu_eq : κu = ⊤ := IdealRules.named_const.ideal_named_scalar _ _ _ _ rfl

theorem side128 : Side 128 := ⟨reduces_S512x128_S512, .inl rfl, rfl, rfl, broadcasts_S512x1_S512x128, shapeCasts_S512_S512x1, broadcasts_S512x1_S512x64, bitsLt_bf16_f32⟩
theorem side256 : Side 256 := ⟨reduces_S512x256_S512, .inl rfl, rfl, rfl, broadcasts_S512x1_S512x256, shapeCasts_S512_S512x1, broadcasts_S512x1_S512x64, bitsLt_bf16_f32⟩
theorem side384 : Side 384 := ⟨reduces_S512x384_S512, .inl rfl, rfl, rfl, broadcasts_S512x1_S512x384, shapeCasts_S512_S512x1, broadcasts_S512x1_S512x64, bitsLt_bf16_f32⟩
theorem side512 : Side 512 := ⟨reduces_S512x512_S512, .inl rfl, rfl, rfl, broadcasts_S512x1_S512x512, shapeCasts_S512_S512x1, broadcasts_S512x1_S512x64, bitsLt_bf16_f32⟩
theorem side576 : Side 576 := ⟨reduces_S512x576_S512, .inl rfl, rfl, rfl, broadcasts_S512x1_S512x576, shapeCasts_S512_S512x1, broadcasts_S512x1_S512x64, bitsLt_bf16_f32⟩
theorem side1024 : Side 1024 := ⟨reduces_S512x1024_S512, .inl rfl, rfl, rfl, broadcasts_S512x1_S512x1024, shapeCasts_S512_S512x1, broadcasts_S512x1_S512x64, bitsLt_bf16_f32⟩
theorem side1536 : Side 1536 := ⟨reduces_S512x1536_S512, .inl rfl, rfl, rfl, broadcasts_S512x1_S512x1536, shapeCasts_S512_S512x1, broadcasts_S512x1_S512x64, bitsLt_bf16_f32⟩
theorem side2048 : Side 2048 := ⟨reduces_S512x2048_S512, .inl rfl, rfl, rfl, broadcasts_S512x1_S512x2048, shapeCasts_S512_S512x1, broadcasts_S512x1_S512x64, bitsLt_bf16_f32⟩
theorem gside : GateSide := ⟨slices_S512x4_o0_0_S512x1, slices_S512x4_o0_1_S512x1, slices_S512x4_o0_2_S512x1, broadcasts_S512x1_S512x64⟩

/-- A head's slab of a block, as a matrix. -/
abbrev slabV {A B : Nat} {e : EltTy} (X : (⟨3, ![2, A, B]⟩ : Shape).Idx → Elt Idealize.ShloMosaic.Ideal e) (h n : Nat)
    (inb : ∀ a, ![h, 0, 0] a + ![1, n, B] a ≤ (⟨3, ![2, A, B]⟩ : Shape).size a) (hc : (⟨3, ![1, n, B]⟩ : Shape).ShapeCasts (Sh n B)) :
    (Sh n B).Idx → Elt Idealize.ShloMosaic.Ideal e :=
  shapeCast (Sh n B) (View.ld (S := ⟨3, ![2, A, B]⟩) X (Rect.unit ![h, 0, 0] ![1, n, B] inb)) hc

/-- Two heads' outputs on a block of 512 rows starting at `base`, from the block's queries, keys, values, compressed keys and values,
    selection words and gates. -/
def blockOut (base : Nat) (x0 : Vec Idealize.ShloMosaic.Ideal S2x512x64 .bf16) (x1 x2 : Vec Idealize.ShloMosaic.Ideal S2x2048x64 .bf16)
    (x3 x4 : Vec Idealize.ShloMosaic.Ideal S2x512x64 .bf16) (x5 : Vec Idealize.ShloMosaic.Ideal S512x2048 .i8)
    (x6 : Vec Idealize.ShloMosaic.Ideal S2x512x4 .f32) (h : Fin 2) (r : Fin 512) (d : Fin 64) : EReal :=
  headOut base r.val (fun e => x0 (ix3 h r e)) (fun c e => x1 (ix3 h c e)) (fun c e => x2 (ix3 h c e)) (fun c e => x3 (ix3 h c e))
    (fun c e => x4 (ix3 h c e)) (fun c => fM (x5 (ix2 r c))) (fun u => x6 (ix3 h r u)) d

/-- The printed side conditions of a row block that works on `W` key columns, `CB` compressed ones and a band of `SB`. -/
structure Block (W CB SB : Nat) : Prop where
  SC : Side CB
  SF : Side W
  SS : Side SB
  hW : W ≤ 2048
  hCB : CB ≤ 512
  hSB : SB ≤ 2048
  icb0 : (Sh 512 CB).Iotas .tc 32 [0]
  icb1 : (Sh 512 CB).Iotas .tc 32 [1]
  isb0 : (Sh 512 SB).Iotas .tc 32 [0]
  isb1 : (Sh 512 SB).Iotas .tc 32 [1]
  cq : (⟨3, ![1, 512, 64]⟩ : Shape).ShapeCasts (Sh 512 64)
  ck : (⟨3, ![1, W, 64]⟩ : Shape).ShapeCasts (Sh W 64)
  cc : (⟨3, ![1, CB, 64]⟩ : Shape).ShapeCasts (Sh CB 64)
  cg : (⟨3, ![1, 512, 4]⟩ : Shape).ShapeCasts (Sh 512 4)
  cf : (Sh 512 W).ShapeCasts (Sh 512 W)

/-- A head's slab starts inside its block. -/
theorem slab_inb {H A B h n : Nat} (hh : h < H) (hn : n ≤ A) :
    ∀ a, ![h, 0, 0] a + ![1, n, B] a ≤ (⟨3, ![H, A, B]⟩ : Shape).size a := fun a => by
  match a with
  | ⟨0, _⟩ => exact hh
  | ⟨1, _⟩ => exact (Nat.zero_add n).le.trans hn
  | ⟨2, _⟩ => exact (Nat.zero_add B).le

/-- The leading columns lie inside a matrix. -/
theorem lead_inb {A B n : Nat} (hn : n ≤ B) : ∀ a, ![0, 0] a + ![A, n] a ≤ (Sh A B).size a := fun a => by
  match a with
  | ⟨0, _⟩ => exact (Nat.zero_add A).le
  | ⟨1, _⟩ => exact (Nat.zero_add n).le.trans hn

variable {W CB SB : Nat}

/-- One head of a row block, as printed, its band of keys and values given apart. -/
def headB (B : Block W CB SB) (base s0 : Nat) (X0 : Vec Idealize.ShloMosaic.Ideal S2x512x64 .bf16) (X1 X2 : Vec Idealize.ShloMosaic.Ideal S2x2048x64 .bf16)
    (X3 X4 : Vec Idealize.ShloMosaic.Ideal S2x512x64 .bf16) (X5 : Vec Idealize.ShloMosaic.Ideal S512x2048 .i8)
    (X6 : Vec Idealize.ShloMosaic.Ideal S2x512x4 .f32) (band : FVec Idealize.ShloMosaic.Ideal (Sh W 64) .bf16 → FVec Idealize.ShloMosaic.Ideal (Sh SB 64) .bf16)
    (h : Nat) (hh : h < 2) : FVec Idealize.ShloMosaic.Ideal (Sh 512 64) .f32 :=
  headV B.SC B.SF B.SS gside (slabV X0 h 512 (slab_inb hh le_rfl) B.cq)
    (slabV X1 h W (slab_inb hh B.hW) B.ck) (slabV X2 h W (slab_inb hh B.hW) B.ck)
    (slabV X3 h CB (slab_inb hh B.hCB) B.cc) (slabV X4 h CB (slab_inb hh B.hCB) B.cc)
    (band (slabV X1 h W (slab_inb hh B.hW) B.ck)) (band (slabV X2 h W (slab_inb hh B.hW) B.ck))
    (cmV CB (BitVec.ofNat 32 base) κm B.icb0 B.icb1)
    (fmV W (View.ld (S := S512x2048) X5 (Rect.unit ![0, 0] ![512, W] (lead_inb B.hW))) κu B.cf)
    (smV SB (BitVec.ofNat 32 base) (BitVec.ofNat 32 s0) κm B.isb0 B.isb1)
    (slabV X6 h 512 (slab_inb hh le_rfl) B.cg)

/-- A row block's printed operations: its two heads side by side. -/
def blockV (B : Block W CB SB) (base s0 : Nat) (X0 : Vec Idealize.ShloMosaic.Ideal S2x512x64 .bf16) (X1 X2 : Vec Idealize.ShloMosaic.Ideal S2x2048x64 .bf16)
    (X3 X4 : Vec Idealize.ShloMosaic.Ideal S2x512x64 .bf16) (X5 : Vec Idealize.ShloMosaic.Ideal S512x2048 .i8)
    (X6 : Vec Idealize.ShloMosaic.Ideal S2x512x4 .f32) (band : FVec Idealize.ShloMosaic.Ideal (Sh W 64) .bf16 → FVec Idealize.ShloMosaic.Ideal (Sh SB 64) .bf16) :
    FVec Idealize.ShloMosaic.Ideal (Sh 512 128) .bf16 :=
  truncf .bf16 (concatenate S512x128 1 [⟨S512x64, headB B base s0 X0 X1 X2 X3 X4 X5 X6 band 0 (by decide)⟩,
    ⟨S512x64, headB B base s0 X0 X1 X2 X3 X4 X5 X6 band 1 (by decide)⟩] concatenates_S512x64_S512x64_S512x128_d1) bitsLt_bf16_f32

/-- A head of a row block computes the head's output over all columns. -/
theorem headB_apply (B : Block W CB SB) (base s0 : Nat) (X0 : Vec Idealize.ShloMosaic.Ideal S2x512x64 .bf16) (X1 X2 : Vec Idealize.ShloMosaic.Ideal S2x2048x64 .bf16)
    (X3 X4 : Vec Idealize.ShloMosaic.Ideal S2x512x64 .bf16) (X5 : Vec Idealize.ShloMosaic.Ideal S512x2048 .i8)
    (X6 : Vec Idealize.ShloMosaic.Ideal S2x512x4 .f32) (band : FVec Idealize.ShloMosaic.Ideal (Sh W 64) .bf16 → FVec Idealize.ShloMosaic.Ideal (Sh SB 64) .bf16)
    (hS : s0 + SB ≤ W) (hbW : base + 512 ≤ W) (hbC : base + 512 ≤ 4 * CB) (hbS : base + 512 ≤ s0 + SB) (hs : s0 = 0 ∨ s0 + 32 ≤ base)
    (hband : ∀ (k : FVec Idealize.ShloMosaic.Ideal (Sh W 64) .bf16) (c : Fin SB) e, band k (ix2 c e) = k (ix2 ⟨s0 + c.val, by omega⟩ e))
    (h : Nat) (hh : h < 2) (r : Fin 512) (d : Fin 64) (hcaus : ∀ z : Fin 2048, base + r.val < z.val → fM (X5 (ix2 r z)) = ⊥) :
    headB B base s0 X0 X1 X2 X3 X4 X5 X6 band h hh (ix2 r d) = blockOut base X0 X1 X2 X3 X4 X5 X6 ⟨h, hh⟩ r d := by
  have hW := B.hW
  have hCB := B.hCB
  have hb : base < 2 ^ 12 := by omega
  exact headV_apply B.SC B.SF B.SS gside _ _ _ _ _ _ _ _ _ _ _ base s0 hW hCB (by omega) hbW hbC hbS hs
    (fun e => X0 (ix3 (⟨h, hh⟩ : Fin 2) r e)) (fun c e => X1 (ix3 (⟨h, hh⟩ : Fin 2) c e)) (fun c e => X2 (ix3 (⟨h, hh⟩ : Fin 2) c e))
    (fun c e => X3 (ix3 (⟨h, hh⟩ : Fin 2) c e)) (fun c e => X4 (ix3 (⟨h, hh⟩ : Fin 2) c e)) (fun c => fM (X5 (ix2 r c)))
    (fun u => X6 (ix3 (⟨h, hh⟩ : Fin 2) r u)) r d
    (fun e => slab X0 hh le_rfl _ _ r e)
    (fun c e => slab X1 hh hW _ _ c e) (fun c e => slab X2 hh hW _ _ c e)
    (fun c e => slab X3 hh hCB _ _ c e) (fun c e => slab X4 hh hCB _ _ c e)
    (fun c e => (hband _ c e).trans (slab X1 hh hW _ _ _ e)) (fun c e => (hband _ c e).trans (slab X2 hh hW _ _ _ e))
    (fun c => cmV_apply base _ κm_eq _ _ hb (by omega) r c) (fun c => (fmV_apply _ _ κu_eq _ r c).trans (congrArg fM (lead X5 hW _ r c)))
    (fun c => smV_apply base s0 _ κm_eq _ _ hb (by omega) (by omega) r c)
    (fun u => slab X6 hh le_rfl _ _ r u) hcaus

/-- A row block computes, in its columns `64·h + d`, head `h`'s output over all key columns. -/
theorem blockV_apply (B : Block W CB SB) (base s0 : Nat) (X0 : Vec Idealize.ShloMosaic.Ideal S2x512x64 .bf16) (X1 X2 : Vec Idealize.ShloMosaic.Ideal S2x2048x64 .bf16)
    (X3 X4 : Vec Idealize.ShloMosaic.Ideal S2x512x64 .bf16) (X5 : Vec Idealize.ShloMosaic.Ideal S512x2048 .i8)
    (X6 : Vec Idealize.ShloMosaic.Ideal S2x512x4 .f32) (band : FVec Idealize.ShloMosaic.Ideal (Sh W 64) .bf16 → FVec Idealize.ShloMosaic.Ideal (Sh SB 64) .bf16)
    (hS : s0 + SB ≤ W) (hbW : base + 512 ≤ W) (hbC : base + 512 ≤ 4 * CB) (hbS : base + 512 ≤ s0 + SB) (hs : s0 = 0 ∨ s0 + 32 ≤ base)
    (hband : ∀ (k : FVec Idealize.ShloMosaic.Ideal (Sh W 64) .bf16) (c : Fin SB) e, band k (ix2 c e) = k (ix2 ⟨s0 + c.val, by omega⟩ e))
    (r : Fin 512) (h : Fin 2) (d : Fin 64) (hcaus : ∀ z : Fin 2048, base + r.val < z.val → fM (X5 (ix2 r z)) = ⊥) :
    blockV B base s0 X0 X1 X2 X3 X4 X5 X6 band (ix2 r ⟨64 * h.val + d.val, by omega⟩) = blockOut base X0 X1 X2 X3 X4 X5 X6 h r d := by
  unfold blockV
  rw [heads_apply]
  have hh : h = 0 ∨ h = 1 := by omega
  rcases hh with rfl | rfl
  · exact (if_pos rfl).trans (headB_apply B base s0 X0 X1 X2 X3 X4 X5 X6 band hS hbW hbC hbS hs hband 0 _ r d hcaus)
  · exact (if_neg (by decide)).trans (headB_apply B base s0 X0 X1 X2 X3 X4 X5 X6 band hS hbW hbC hbS hs hband 1 _ r d hcaus)

end Cert.KernelIdeal.Val
-- ==== Proof.Cases.lean ====
/- The attention kernel's four row blocks, each on the key columns its causal mask can reach: what a grid point writes. -/
module

public import proofs.«01_k».proof.Proof.CaseBase

@[expose] public section

set_option maxRecDepth 16384

noncomputable section

namespace Cert.KernelIdeal.Val

open Idealize.ShloMosaic Idealize.ShloMosaic.TcCoe Idealize.ShloMosaic.ValueIdx Cert.Soft Cert.Attn Cert.KernelIdeal Cert.KernelIdeal.Gen Idealize.ShloMosaic.Pipeline Idealize.SL.Sem

variable (V : (c : Dev nD) → (b : Ref sig .tc) → Buf (Elt Idealize.ShloMosaic.Ideal) (c.tc.loc b))

theorem block512 : Block 512 128 512 :=
  ⟨side128, side512, side512, by norm_num, by norm_num, by norm_num, iota_S512x128_d0_w32, iota_S512x128_d1_w32, iota_S512x512_d0_w32,
    iota_S512x512_d1_w32, shapeCasts_S1x512x64_S512x64, shapeCasts_S1x512x64_S512x64, shapeCasts_S1x128x64_S128x64,
    shapeCasts_S1x512x4_S512x4, shapeCasts_S512x512_S512x512⟩

/-- What the launch writes at a point of the row block at 0. -/
theorem pointA (c : Dev nD) (t : Fin cfg2.N) (h0 : ¬6 ≤ t.val) (r : Fin 512) (h : Fin 2) (d : Fin 64)
    (hcaus : ∀ z : Fin 2048, 0 + r.val < z.val → fM (iblk2 V c 5 t (ix2 r z)) = ⊥) :
    outsAt2 V c t.val t.isLt (ix2 r ⟨64 * h.val + d.val, by omega⟩)
      = blockOut 0 (iblk2 V c 0 t) (iblk2 V c 1 t) (iblk2 V c 2 t) (iblk2 V c 3 t) (iblk2 V c 4 t) (iblk2 V c 5 t) (iblk2 V c 6 t) h r d := by
  rw [outsAt2_A V c t h0]
  unfold out2_A_8
  rw [View.read_writes_eq_canon _ _ _ (fun _ => cover2_A_8 (F := Idealize.ShloMosaic.Ideal) ..)]
  unfold kernelRun2_A
  dsimp only
  sl_unfold_words
  simp only [View.readAt_eq_ld, (hs2_0 t).read_unread, (hs2_1 t).read_unread, (hs2_2 t).read_unread, (hs2_3 t).read_unread,
    (hs2_4 t).read_unread, (hs2_5 t).read_unread, (hs2_6 t).read_unread]
  rw [View.canon_unit_zero (by funext a; match a with | ⟨0, _⟩ => rfl | ⟨1, _⟩ => rfl)]
  have e := blockV_apply block512 0 0 (iblk2 V c 0 t) (iblk2 V c 1 t) (iblk2 V c 2 t) (iblk2 V c 3 t) (iblk2 V c 4 t) (iblk2 V c 5 t)
    (iblk2 V c 6 t) (fun k => k) (by norm_num) (by norm_num) (by norm_num) (by norm_num) (by norm_num)
    (fun k c e => congrArg (fun z => k (ix2 z e)) (Fin.ext (Nat.zero_add _).symm)) r h d hcaus
  dsimp only [blockV, headB] at e
  exact e

theorem block1024 : Block 1024 256 576 :=
  ⟨side256, side1024, side576, by norm_num, by norm_num, by norm_num, iota_S512x256_d0_w32, iota_S512x256_d1_w32, iota_S512x576_d0_w32,
    iota_S512x576_d1_w32, shapeCasts_S1x512x64_S512x64, shapeCasts_S1x1024x64_S1024x64, shapeCasts_S1x256x64_S256x64,
    shapeCasts_S1x512x4_S512x4, shapeCasts_S512x1024_S512x1024⟩

/-- What the launch writes at a point of the row block at 512. -/
theorem pointB (c : Dev nD) (t : Fin cfg2.N) (h0 : 6 ≤ t.val) (h1 : ¬t.val / 6 % 4 ≠ 1) (r : Fin 512) (h : Fin 2) (d : Fin 64)
    (hcaus : ∀ z : Fin 2048, 512 + r.val < z.val → fM (iblk2 V c 5 t (ix2 r z)) = ⊥) :
    outsAt2 V c t.val t.isLt (ix2 r ⟨64 * h.val + d.val, by omega⟩)
      = blockOut 512 (iblk2 V c 0 t) (iblk2 V c 1 t) (iblk2 V c 2 t) (iblk2 V c 3 t) (iblk2 V c 4 t) (iblk2 V c 5 t) (iblk2 V c 6 t) h r d := by
  rw [outsAt2_B V c t h0 h1]
  unfold out2_B_8
  rw [View.read_writes_eq_canon _ _ _ (fun _ => cover2_B_8 (F := Idealize.ShloMosaic.Ideal) ..)]
  unfold kernelRun2_B
  dsimp only
  sl_unfold_words
  simp only [View.readAt_eq_ld, (hs2_0 t).read_unread, (hs2_1 t).read_unread, (hs2_2 t).read_unread, (hs2_3 t).read_unread,
    (hs2_4 t).read_unread, (hs2_5 t).read_unread, (hs2_6 t).read_unread]
  rw [View.canon_unit_zero (by funext a; match a with | ⟨0, _⟩ => rfl | ⟨1, _⟩ => rfl)]
  have e := blockV_apply block1024 512 448 (iblk2 V c 0 t) (iblk2 V c 1 t) (iblk2 V c 2 t) (iblk2 V c 3 t) (iblk2 V c 4 t) (iblk2 V c 5 t)
    (iblk2 V c 6 t) (fun k => extractStridedSlice S576x64 ![448, 0] k slices_S1024x64_o448_0_S576x64) (by norm_num) (by norm_num) (by norm_num) (by norm_num) (by norm_num)
    (fun k c e => slice2_axis0_apply _ _ _ _ _ _ rfl) r h d hcaus
  dsimp only [blockV, headB] at e
  exact e

theorem block1536 : Block 1536 384 576 :=
  ⟨side384, side1536, side576, by norm_num, by norm_num, by norm_num, iota_S512x384_d0_w32, iota_S512x384_d1_w32, iota_S512x576_d0_w32,
    iota_S512x576_d1_w32, shapeCasts_S1x512x64_S512x64, shapeCasts_S1x1536x64_S1536x64, shapeCasts_S1x384x64_S384x64,
    shapeCasts_S1x512x4_S512x4, shapeCasts_S512x1536_S512x1536⟩

/-- What the launch writes at a point of the row block at 1024. -/
theorem pointC (c : Dev nD) (t : Fin cfg2.N) (h0 : 6 ≤ t.val) (h1 : t.val / 6 % 4 ≠ 1) (h2 : ¬t.val / 6 % 4 ≠ 2) (r : Fin 512) (h : Fin 2) (d : Fin 64)
    (hcaus : ∀ z : Fin 2048, 1024 + r.val < z.val → fM (iblk2 V c 5 t (ix2 r z)) = ⊥) :
    outsAt2 V c t.val t.isLt (ix2 r ⟨64 * h.val + d.val, by omega⟩)
      = blockOut 1024 (iblk2 V c 0 t) (iblk2 V c 1 t) (iblk2 V c 2 t) (iblk2 V c 3 t) (iblk2 V c 4 t) (iblk2 V c 5 t) (iblk2 V c 6 t) h r d := by
  rw [outsAt2_C V c t h0 h1 h2]
  unfold out2_C_8
  rw [View.read_writes_eq_canon _ _ _ (fun _ => cover2_C_8 (F := Idealize.ShloMosaic.Ideal) ..)]
  unfold kernelRun2_C
  dsimp only
  sl_unfold_words
  simp only [View.readAt_eq_ld, (hs2_0 t).read_unread, (hs2_1 t).read_unread, (hs2_2 t).read_unread, (hs2_3 t).read_unread,
    (hs2_4 t).read_unread, (hs2_5 t).read_unread, (hs2_6 t).read_unread]
  rw [View.canon_unit_zero (by funext a; match a with | ⟨0, _⟩ => rfl | ⟨1, _⟩ => rfl)]
  have e := blockV_apply block1536 1024 960 (iblk2 V c 0 t) (iblk2 V c 1 t) (iblk2 V c 2 t) (iblk2 V c 3 t) (iblk2 V c 4 t) (iblk2 V c 5 t)
    (iblk2 V c 6 t) (fun k => extractStridedSlice S576x64 ![960, 0] k slices_S1536x64_o960_0_S576x64) (by norm_num) (by norm_num) (by norm_num) (by norm_num) (by norm_num)
    (fun k c e => slice2_axis0_apply _ _ _ _ _ _ rfl) r h d hcaus
  dsimp only [blockV, headB] at e
  exact e

theorem block2048 : Block 2048 512 576 :=
  ⟨side512, side2048, side576, by norm_num, by norm_num, by norm_num, iota_S512x512_d0_w32, iota_S512x512_d1_w32, iota_S512x576_d0_w32,
    iota_S512x576_d1_w32, shapeCasts_S1x512x64_S512x64, shapeCasts_S1x2048x64_S2048x64, shapeCasts_S1x512x64_S512x64,
    shapeCasts_S1x512x4_S512x4, shapeCasts_S512x2048_S512x2048⟩

/-- What the launch writes at a point of the row block at 1536. -/
theorem pointD (c : Dev nD) (t : Fin cfg2.N) (h0 : 6 ≤ t.val) (h1 : t.val / 6 % 4 ≠ 1) (h2 : t.val / 6 % 4 ≠ 2) (r : Fin 512) (h : Fin 2) (d : Fin 64)
    (hcaus : ∀ z : Fin 2048, 1536 + r.val < z.val → fM (iblk2 V c 5 t (ix2 r z)) = ⊥) :
    outsAt2 V c t.val t.isLt (ix2 r ⟨64 * h.val + d.val, by omega⟩)
      = blockOut 1536 (iblk2 V c 0 t) (iblk2 V c 1 t) (iblk2 V c 2 t) (iblk2 V c 3 t) (iblk2 V c 4 t) (iblk2 V c 5 t) (iblk2 V c 6 t) h r d := by
  rw [outsAt2_D V c t h0 h1 h2]
  unfold out2_D_8
  rw [View.read_writes_eq_canon _ _ _ (fun _ => cover2_D_8 (F := Idealize.ShloMosaic.Ideal) ..)]
  unfold kernelRun2_D
  dsimp only
  sl_unfold_words
  simp only [View.readAt_eq_ld, (hs2_0 t).read_unread, (hs2_1 t).read_unread, (hs2_2 t).read_unread, (hs2_3 t).read_unread,
    (hs2_4 t).read_unread, (hs2_5 t).read_unread, (hs2_6 t).read_unread]
  rw [View.canon_unit_zero (by funext a; match a with | ⟨0, _⟩ => rfl | ⟨1, _⟩ => rfl)]
  have e := blockV_apply block2048 1536 1472 (iblk2 V c 0 t) (iblk2 V c 1 t) (iblk2 V c 2 t) (iblk2 V c 3 t) (iblk2 V c 4 t) (iblk2 V c 5 t)
    (iblk2 V c 6 t) (fun k => extractStridedSlice S576x64 ![1472, 0] k slices_S2048x64_o1472_0_S576x64) (by norm_num) (by norm_num) (by norm_num) (by norm_num) (by norm_num)
    (fun k c e => slice2_axis0_apply _ _ _ _ _ _ rfl) r h d hcaus
  dsimp only [blockV, headB] at e
  exact e

end Cert.KernelIdeal.Val
-- ==== Proof.AttArr.lean ====
/- The attention kernel's array, of the arrays it is given. -/
module

public import proofs.«01_k».proof.Proof.ArrBase
public import proofs.«01_k».proof.Proof.Cases

@[expose] public section

set_option maxRecDepth 16384

noncomputable section

namespace Cert.KernelIdeal.Val

open Idealize.ShloMosaic Idealize.ShloMosaic.TcCoe Idealize.ShloMosaic.ValueIdx Cert.Soft Cert.Attn Cert.Spec Cert.KernelIdeal Cert.KernelIdeal.Gen Idealize.ShloMosaic.Pipeline Idealize.SL.Sem

variable (V : (c : Dev nD) → (b : Ref sig .tc) → Buf (Elt Idealize.ShloMosaic.Ideal) ((c : Thread nD τ).loc b))

theorem jlt (t : Fin cfg2.N) : t.val / 6 < 4 := by
  have h : t.val < 24 := t.isLt
  omega

/-- The head and the row of the arrays that a block's are. -/
def hd2 (t : Fin cfg2.N) (h : Fin 2) : Fin 12 := ⟨2 * (t.val % 6) + h.val, by omega⟩
def row2 (t : Fin cfg2.N) (r : Fin 512) : Fin 2048 := ⟨512 * (t.val / 6) + r.val, by have := jlt t; omega⟩

theorem ix2_0 : ∀ t : Fin cfg2.N, win2_0.index t (0 : Fin 3) = t.val % 6 ∧ win2_0.index t (1 : Fin 3) = t.val / 6 ∧ win2_0.index t (2 : Fin 3) = 0 := (by decide +kernel : ∀ t : Fin grid2.N, _)
theorem ix2_6 : ∀ t : Fin cfg2.N, win2_6.index t (0 : Fin 3) = t.val % 6 ∧ win2_6.index t (1 : Fin 3) = t.val / 6 ∧ win2_6.index t (2 : Fin 3) = 0 := (by decide +kernel : ∀ t : Fin grid2.N, _)
theorem ix2_1 : ∀ t : Fin cfg2.N, win2_1.index t (0 : Fin 3) = t.val % 6 ∧ win2_1.index t (1 : Fin 3) = 0 ∧ win2_1.index t (2 : Fin 3) = 0 := (by decide +kernel : ∀ t : Fin grid2.N, _)
theorem ix2_2 : ∀ t : Fin cfg2.N, win2_2.index t (0 : Fin 3) = t.val % 6 ∧ win2_2.index t (1 : Fin 3) = 0 ∧ win2_2.index t (2 : Fin 3) = 0 := (by decide +kernel : ∀ t : Fin grid2.N, _)
theorem ix2_3 : ∀ t : Fin cfg2.N, win2_3.index t (0 : Fin 3) = t.val % 6 ∧ win2_3.index t (1 : Fin 3) = 0 ∧ win2_3.index t (2 : Fin 3) = 0 := (by decide +kernel : ∀ t : Fin grid2.N, _)
theorem ix2_4 : ∀ t : Fin cfg2.N, win2_4.index t (0 : Fin 3) = t.val % 6 ∧ win2_4.index t (1 : Fin 3) = 0 ∧ win2_4.index t (2 : Fin 3) = 0 := (by decide +kernel : ∀ t : Fin grid2.N, _)
theorem ix2_5 : ∀ t : Fin cfg2.N, win2_5.index t (0 : Fin 2) = t.val / 6 ∧ win2_5.index t (1 : Fin 2) = 0 := (by decide +kernel : ∀ t : Fin grid2.N, _)
theorem ix2_8 : ∀ t : Fin cfg2.N, win2_8.index t (0 : Fin 2) = t.val / 6 ∧ win2_8.index t (1 : Fin 2) = t.val % 6 := (by decide +kernel : ∀ t : Fin grid2.N, _)

theorem blk2_0 (c : Dev nD) (t : Fin cfg2.N) (h : Fin 2) (r : Fin 512) (k : Fin 64) : iblk2 V c 0 t (ix3 h r k) = V c main_v6_1 (ix3 (hd2 t h) (row2 t r) k) := by
  obtain ⟨e0, e1, e2⟩ := ix2_0 t
  show V c main_v6_1 (((cfg2.win 0).blk t).view.emb (ix3 h r k)) = _
  refine congrArg (V c main_v6_1) (idx3 _ _ _ _ ?_ ?_ ?_)
  · show win2_0.index t (0 : Fin 3) * 2 + 1 * h.val = 2 * (t.val % 6) + h.val; omega
  · show win2_0.index t (1 : Fin 3) * 512 + 1 * r.val = 512 * (t.val / 6) + r.val; omega
  · show win2_0.index t (2 : Fin 3) * 64 + 1 * k.val = k.val; omega

theorem blk2_1 (c : Dev nD) (t : Fin cfg2.N) (h : Fin 2) (r : Fin 2048) (k : Fin 64) : iblk2 V c 1 t (ix3 h r k) = V c main_v6_2 (ix3 (hd2 t h) r k) := by
  obtain ⟨e0, e1, e2⟩ := ix2_1 t
  show V c main_v6_2 (((cfg2.win 1).blk t).view.emb (ix3 h r k)) = _
  refine congrArg (V c main_v6_2) (idx3 _ _ _ _ ?_ ?_ ?_)
  · show win2_1.index t (0 : Fin 3) * 2 + 1 * h.val = 2 * (t.val % 6) + h.val; omega
  · show win2_1.index t (1 : Fin 3) * 2048 + 1 * r.val = r.val; omega
  · show win2_1.index t (2 : Fin 3) * 64 + 1 * k.val = k.val; omega

theorem blk2_2 (c : Dev nD) (t : Fin cfg2.N) (h : Fin 2) (r : Fin 2048) (k : Fin 64) : iblk2 V c 2 t (ix3 h r k) = V c main_v6_3 (ix3 (hd2 t h) r k) := by
  obtain ⟨e0, e1, e2⟩ := ix2_2 t
  show V c main_v6_3 (((cfg2.win 2).blk t).view.emb (ix3 h r k)) = _
  refine congrArg (V c main_v6_3) (idx3 _ _ _ _ ?_ ?_ ?_)
  · show win2_2.index t (0 : Fin 3) * 2 + 1 * h.val = 2 * (t.val % 6) + h.val; omega
  · show win2_2.index t (1 : Fin 3) * 2048 + 1 * r.val = r.val; omega
  · show win2_2.index t (2 : Fin 3) * 64 + 1 * k.val = k.val; omega

theorem blk2_3 (c : Dev nD) (t : Fin cfg2.N) (h : Fin 2) (r : Fin 512) (k : Fin 64) : iblk2 V c 3 t (ix3 h r k) = V c main_v15_0 (ix3 (hd2 t h) r k) := by
  obtain ⟨e0, e1, e2⟩ := ix2_3 t
  show V c main_v15_0 (((cfg2.win 3).blk t).view.emb (ix3 h r k)) = _
  refine congrArg (V c main_v15_0) (idx3 _ _ _ _ ?_ ?_ ?_)
  · show win2_3.index t (0 : Fin 3) * 2 + 1 * h.val = 2 * (t.val % 6) + h.val; omega
  · show win2_3.index t (1 : Fin 3) * 512 + 1 * r.val = r.val; omega
  · show win2_3.index t (2 : Fin 3) * 64 + 1 * k.val = k.val; omega

theorem blk2_4 (c : Dev nD) (t : Fin cfg2.N) (h : Fin 2) (r : Fin 512) (k : Fin 64) : iblk2 V c 4 t (ix3 h r k) = V c main_v15_1 (ix3 (hd2 t h) r k) := by
  obtain ⟨e0, e1, e2⟩ := ix2_4 t
  show V c main_v15_1 (((cfg2.win 4).blk t).view.emb (ix3 h r k)) = _
  refine congrArg (V c main_v15_1) (idx3 _ _ _ _ ?_ ?_ ?_)
  · show win2_4.index t (0 : Fin 3) * 2 + 1 * h.val = 2 * (t.val % 6) + h.val; omega
  · show win2_4.index t (1 : Fin 3) * 512 + 1 * r.val = r.val; omega
  · show win2_4.index t (2 : Fin 3) * 64 + 1 * k.val = k.val; omega

theorem blk2_6 (c : Dev nD) (t : Fin cfg2.N) (h : Fin 2) (r : Fin 512) (k : Fin 4) : iblk2 V c 6 t (ix3 h r k) = V c main_v6_4 (ix3 (hd2 t h) (row2 t r) k) := by
  obtain ⟨e0, e1, e2⟩ := ix2_6 t
  show V c main_v6_4 (((cfg2.win 6).blk t).view.emb (ix3 h r k)) = _
  refine congrArg (V c main_v6_4) (idx3 _ _ _ _ ?_ ?_ ?_)
  · show win2_6.index t (0 : Fin 3) * 2 + 1 * h.val = 2 * (t.val % 6) + h.val; omega
  · show win2_6.index t (1 : Fin 3) * 512 + 1 * r.val = 512 * (t.val / 6) + r.val; omega
  · show win2_6.index t (2 : Fin 3) * 4 + 1 * k.val = k.val; omega

theorem blk2_5 (c : Dev nD) (t : Fin cfg2.N) (r : Fin 512) (k : Fin 2048) : iblk2 V c 5 t (ix2 r k) = V c main_v16 (ix2 (row2 t r) k) := by
  obtain ⟨e0, e1⟩ := ix2_5 t
  show V c main_v16 (((cfg2.win 5).blk t).view.emb (ix2 r k)) = _
  refine congrArg (V c main_v16) (idx2 _ _ _ ?_ ?_)
  · show win2_5.index t (0 : Fin 2) * 512 + 1 * r.val = 512 * (t.val / 6) + r.val; omega
  · show win2_5.index t (1 : Fin 2) * 2048 + 1 * k.val = k.val; omega

theorem headOut_row (base r : Nat) (Q : Fin 64 → EReal) (K W : Fin 2048 → Fin 64 → EReal) (CK CV : Fin 512 → Fin 64 → EReal)
    (FM : Fin 2048 → EReal) (g : Fin 4 → EReal) (d : Fin 64) : headOut base r Q K W CK CV FM g d = headOut 0 (base + r) Q K W CK CV FM g d := by
  unfold headOut cM sM
  simp only [Nat.zero_add]

/-- The selection words put a query's later keys at −∞. -/
def Causal (c : Dev nD) : Prop := ∀ i z : Fin 2048, i.val < z.val → fM (V c main_v16 (ix2 i z)) = ⊥

/-- The attention of head `H` at row `i`. -/
def attAt (c : Dev nD) (H : Fin 12) (i : Fin 2048) (d : Fin 64) : EReal :=
  headOut 0 i.val (fun e => rd3 (V c main_v6_1) H i e) (fun z e => rd3 (V c main_v6_2) H z e) (fun z e => rd3 (V c main_v6_3) H z e)
    (fun z e => rd3 (V c main_v15_0) H z e) (fun z e => rd3 (V c main_v15_1) H z e) (fun z => fM (V c main_v16 (ix2 i z)))
    (fun u => rd3 (V c main_v6_4) H i u) d

theorem point (c : Dev nD) (hM : Causal V c) (t : Fin cfg2.N) (r : Fin 512) (h : Fin 2) (d : Fin 64) :
    outsAt2 V c t.val t.isLt (ix2 r ⟨64 * h.val + d.val, by omega⟩) = attAt V c (hd2 t h) (row2 t r) d := by
  have hb : outsAt2 V c t.val t.isLt (ix2 r ⟨64 * h.val + d.val, by omega⟩)
      = blockOut (512 * (t.val / 6)) (iblk2 V c 0 t) (iblk2 V c 1 t) (iblk2 V c 2 t) (iblk2 V c 3 t) (iblk2 V c 4 t) (iblk2 V c 5 t)
        (iblk2 V c 6 t) h r d := by
    have hc : ∀ z : Fin 2048, 512 * (t.val / 6) + r.val < z.val → fM (iblk2 V c 5 t (ix2 r z)) = ⊥ := fun z hz => by
      rw [blk2_5]; exact hM _ _ hz
    have hj := jlt t
    rcases (by omega : t.val / 6 = 0 ∨ t.val / 6 = 1 ∨ t.val / 6 = 2 ∨ t.val / 6 = 3) with e | e | e | e <;> rw [e] at hc ⊢
    · exact pointA V c t (by omega) r h d hc
    · exact pointB V c t (by omega) (by omega) r h d hc
    · exact pointC V c t (by omega) (by omega) (by omega) r h d hc
    · exact pointD V c t (by omega) (by omega) (by omega) r h d hc
  rw [hb]
  unfold blockOut attAt
  rw [headOut_row]
  simp only [blk2_0, blk2_1, blk2_2, blk2_3, blk2_4, blk2_5, blk2_6]
  rfl

/-- The attention's array, heads side by side. -/
def attArr (c : Dev nD) (x : S2048x768.Idx) : EReal :=
  attAt V c ⟨(x 1).val / 64, by have h : (x 1).val < 768 := (x 1).isLt; omega⟩ (x 0) ⟨(x 1).val % 64, by omega⟩

theorem cov2_8 : (cfg2.win 8).Covers := by decide +kernel

theorem emb2_8 (t : Fin cfg2.N) (r : Fin 512) (q : Fin 128) :
    ((cfg2.win 8).blk t).view.emb (ix2 r q) = ix2 (row2 t r) ⟨128 * (t.val % 6) + q.val, by omega⟩ := by
  obtain ⟨e0, e1⟩ := ix2_8 t
  exact idx2 _ _ _ (by show win2_8.index t (0 : Fin 2) * 512 + 1 * r.val = 512 * (t.val / 6) + r.val; omega)
    (by show win2_8.index t (1 : Fin 2) * 128 + 1 * q.val = 128 * (t.val % 6) + q.val; omega)

theorem att_step (c : Dev nD) (hM : Causal V c) (t : Fin cfg2.N) (y : S512x128.Idx) :
    (dat2 V c).after 8 t y = attArr V c (((cfg2.win 8).blk t).view.emb y) := by
  rw [after2_8]
  obtain ⟨r, q, rfl⟩ : ∃ (r : Fin 512) (q : Fin 128), y = ix2 r q := ⟨y 0, y 1, idx2 y _ _ rfl rfl⟩
  rw [emb2_8]
  obtain ⟨h, d, rfl⟩ : ∃ (h : Fin 2) (d : Fin 64), q = ⟨64 * h.val + d.val, by omega⟩ :=
    ⟨⟨q.val / 64, by omega⟩, ⟨q.val % 64, by omega⟩, Fin.ext (by show q.val = 64 * (q.val / 64) + q.val % 64; omega)⟩
  refine (point V c hM t r h d).trans ?_
  show attAt V c _ _ _ = attAt V c _ _ _
  refine congrArg₂ (fun a b => attAt V c a (row2 t r) b) (Fin.ext ?_) (Fin.ext ?_)
  · show 2 * (t.val % 6) + h.val = (128 * (t.val % 6) + (64 * h.val + d.val)) / 64; omega
  · show d.val = (128 * (t.val % 6) + (64 * h.val + d.val)) % 64; omega

theorem att_all (c : Dev nD) (hM : Causal V c) : (dat2 V c).arrAt 8 cfg2.N = attArr V c :=
  (dat2 V c).arrAt_eq_of_covers 8 (attArr V c) cov2_8 (fun t _ y => att_step V c hM t y) (Memref.isWhole_whole _)

end Cert.KernelIdeal.Val
-- ==== Proof.Tail.lean ====
/- The last kernel's array: the attention's projection added to the mixed rows, and the two-layer tail, of the arrays it is given. -/
module

public import proofs.«01_k».proof.Proof.ArrBase

@[expose] public section

set_option maxRecDepth 16384

noncomputable section

namespace Cert.KernelIdeal.Val

open Idealize.ShloMosaic Idealize.ShloMosaic.TcCoe Idealize.ShloMosaic.ValueIdx Cert.Soft Cert.Spec Cert.KernelIdeal Cert.KernelIdeal.Gen Idealize.ShloMosaic.Pipeline Idealize.SL.Sem

theorem k3_pay1_apply (x : FVec Idealize.ShloMosaic.Ideal S256x768 .f32) (a : FVec Idealize.ShloMosaic.Ideal S256x768 .bf16)
    (wo : FVec Idealize.ShloMosaic.Ideal S768x768 .bf16) (w : FVec Idealize.ShloMosaic.Ideal S768x3072 .bf16)
    (p : FVec Idealize.ShloMosaic.Ideal S3072x768 .bf16) (r : Fin 256) (c : Fin 768) :
    k3_pay1 (F := Idealize.ShloMosaic.Ideal) x a wo w p (ix2 r c) = mlp (fun j l => w (ix2 j l)) (fun j l => p (ix2 j l))
      (fun l => x (ix2 r l) + ∑ j, a (ix2 r j) * wo (ix2 j l)) c := by
  have e : k3_pay1 (F := Idealize.ShloMosaic.Ideal) x a wo w p = Rows.mlpV nside256 (Rows.resV (shapeCast S256x768 x shapeCasts_S256x768_S256x768)
      (shapeCast S256x768 a shapeCasts_S256x768_S256x768) (shapeCast S768x768 wo shapeCasts_S768x768_S768x768))
      (shapeCast S768x3072 w shapeCasts_S768x3072_S768x3072) (shapeCast S3072x768 p shapeCasts_S3072x768_S3072x768) := rfl
  rw [e]
  simp only [shapeCast_self]
  rw [Rows.mlpV_apply]
  exact congrArg (fun f => mlp _ _ f c) (funext fun l => Rows.resV_apply x a wo r l)

theorem out3_5_apply (x0 : Vec Idealize.ShloMosaic.Ideal S256x768 .bf16) (x1 : Vec Idealize.ShloMosaic.Ideal S256x768 .f32)
    (x2 : Vec Idealize.ShloMosaic.Ideal S768x768 .bf16) (x3 : Vec Idealize.ShloMosaic.Ideal S768x3072 .bf16)
    (x4 : Vec Idealize.ShloMosaic.Ideal S3072x768 .bf16) (r : Fin 256) (c : Fin 768) :
    out3_5 (F := Idealize.ShloMosaic.Ideal) x0 x1 x2 x3 x4 (ix2 r c) = mlp (fun j l => x3 (ix2 j l)) (fun j l => x4 (ix2 j l))
      (fun l => x1 (ix2 r l) + ∑ j, x0 (ix2 r j) * x2 (ix2 j l)) c := by
  unfold out3_5
  rw [View.canon_unit_zero hz2, View.ld_unit_zero hz2, View.ld_unit_zero hz2, View.ld_unit_zero hz2, View.ld_unit_zero hz2,
    View.ld_unit_zero hz2]
  exact k3_pay1_apply x1 x0 x2 x3 x4 r c

variable (V : (c : Dev nD) → (b : Ref sig .tc) → Buf (Elt Idealize.ShloMosaic.Ideal) ((c : Thread nD τ).loc b))

theorem lt8x256 (t : Fin cfg3.N) (r : Fin 256) : t.val * 256 + r.val < 2048 := by
  have h : t.val < 8 := t.isLt
  omega

/-- The array's row that a row of point `t`'s block is. -/
def row8 (t : Fin cfg3.N) (r : Fin 256) : Fin 2048 := ⟨t.val * 256 + r.val, lt8x256 t r⟩

theorem ix3_0 : ∀ t : Fin cfg3.N, win3_0.index t (0 : Fin 2) = t.val ∧ win3_0.index t (1 : Fin 2) = 0 := (by decide +kernel : ∀ t : Fin grid3.N, _)
theorem ix3_1 : ∀ t : Fin cfg3.N, win3_1.index t (0 : Fin 2) = t.val ∧ win3_1.index t (1 : Fin 2) = 0 := (by decide +kernel : ∀ t : Fin grid3.N, _)
theorem ix3_2 : ∀ t : Fin cfg3.N, win3_2.index t (0 : Fin 2) = 0 ∧ win3_2.index t (1 : Fin 2) = 0 := (by decide +kernel : ∀ t : Fin grid3.N, _)
theorem ix3_3 : ∀ t : Fin cfg3.N, win3_3.index t (0 : Fin 2) = 0 ∧ win3_3.index t (1 : Fin 2) = 0 := (by decide +kernel : ∀ t : Fin grid3.N, _)
theorem ix3_4 : ∀ t : Fin cfg3.N, win3_4.index t (0 : Fin 2) = 0 ∧ win3_4.index t (1 : Fin 2) = 0 := (by decide +kernel : ∀ t : Fin grid3.N, _)
theorem ix3_5 : ∀ t : Fin cfg3.N, win3_5.index t (0 : Fin 2) = t.val ∧ win3_5.index t (1 : Fin 2) = 0 := (by decide +kernel : ∀ t : Fin grid3.N, _)

theorem blk3_0 (c : Dev nD) (t : Fin cfg3.N) (r : Fin 256) (k : Fin 768) : iblk3 V c 0 t (ix2 r k) = V c main_v18 (ix2 (row8 t r) k) := by
  obtain ⟨e0, e1⟩ := ix3_0 t
  show V c main_v18 (((cfg3.win 0).blk t).view.emb (ix2 r k)) = _
  refine congrArg (V c main_v18) (idx2 _ _ _ ?_ ?_)
  · show win3_0.index t (0 : Fin 2) * 256 + 1 * r.val = t.val * 256 + r.val; omega
  · show win3_0.index t (1 : Fin 2) * 768 + 1 * k.val = k.val; omega

theorem blk3_1 (c : Dev nD) (t : Fin cfg3.N) (r : Fin 256) (k : Fin 768) : iblk3 V c 1 t (ix2 r k) = V c main_v6_0 (ix2 (row8 t r) k) := by
  obtain ⟨e0, e1⟩ := ix3_1 t
  show V c main_v6_0 (((cfg3.win 1).blk t).view.emb (ix2 r k)) = _
  refine congrArg (V c main_v6_0) (idx2 _ _ _ ?_ ?_)
  · show win3_1.index t (0 : Fin 2) * 256 + 1 * r.val = t.val * 256 + r.val; omega
  · show win3_1.index t (1 : Fin 2) * 768 + 1 * k.val = k.val; omega

theorem blk3_2 (c : Dev nD) (t : Fin cfg3.N) (r : Fin 768) (k : Fin 768) : iblk3 V c 2 t (ix2 r k) = V c main_v19 (ix2 r k) := by
  obtain ⟨e0, e1⟩ := ix3_2 t
  show V c main_v19 (((cfg3.win 2).blk t).view.emb (ix2 r k)) = _
  refine congrArg (V c main_v19) (idx2 _ _ _ ?_ ?_)
  · show win3_2.index t (0 : Fin 2) * 768 + 1 * r.val = r.val; omega
  · show win3_2.index t (1 : Fin 2) * 768 + 1 * k.val = k.val; omega

theorem blk3_3 (c : Dev nD) (t : Fin cfg3.N) (r : Fin 768) (k : Fin 3072) : iblk3 V c 3 t (ix2 r k) = V c main_v20 (ix2 r k) := by
  obtain ⟨e0, e1⟩ := ix3_3 t
  show V c main_v20 (((cfg3.win 3).blk t).view.emb (ix2 r k)) = _
  refine congrArg (V c main_v20) (idx2 _ _ _ ?_ ?_)
  · show win3_3.index t (0 : Fin 2) * 768 + 1 * r.val = r.val; omega
  · show win3_3.index t (1 : Fin 2) * 3072 + 1 * k.val = k.val; omega

theorem blk3_4 (c : Dev nD) (t : Fin cfg3.N) (r : Fin 3072) (k : Fin 768) : iblk3 V c 4 t (ix2 r k) = V c main_v21 (ix2 r k) := by
  obtain ⟨e0, e1⟩ := ix3_4 t
  show V c main_v21 (((cfg3.win 4).blk t).view.emb (ix2 r k)) = _
  refine congrArg (V c main_v21) (idx2 _ _ _ ?_ ?_)
  · show win3_4.index t (0 : Fin 2) * 3072 + 1 * r.val = r.val; omega
  · show win3_4.index t (1 : Fin 2) * 768 + 1 * k.val = k.val; omega

theorem cov3_5 : (cfg3.win 5).Covers := by decide +kernel

theorem emb3_5 (t : Fin cfg3.N) (y : S256x768.Idx) : ((cfg3.win 5).blk t).view.emb y = ix2 (row8 t (y 0)) (y 1) := by
  obtain ⟨e0, e1⟩ := ix3_5 t
  exact idx2 _ _ _ (by show win3_5.index t (0 : Fin 2) * 256 + 1 * (y 0).val = t.val * 256 + (y 0).val; omega)
    (by show win3_5.index t (1 : Fin 2) * 768 + 1 * (y 1).val = (y 1).val; omega)

/-- The last kernel's result at a row and a column. -/
def tailAt (c : Dev nD) (i : Fin 2048) (k : Fin 768) : EReal :=
  mlp (fun j l => rd2 (V c main_v20) j l) (fun j l => rd2 (V c main_v21) j l)
    (fun l => rd2 (V c main_v6_0) i l + ∑ j, rd2 (V c main_v18) i j * rd2 (V c main_v19) j l) k

theorem tail_pt (c : Dev nD) (t : Fin cfg3.N) (r : Fin 256) (q : Fin 768) :
    out3_5 (iblk3 V c 0 t) (iblk3 V c 1 t) (iblk3 V c 2 t) (iblk3 V c 3 t) (iblk3 V c 4 t) (ix2 r q) = tailAt V c (row8 t r) q := by
  refine (out3_5_apply _ _ _ _ _ r q).trans ?_
  simp only [blk3_0, blk3_1, blk3_2, blk3_3, blk3_4]
  rfl

theorem tail_after (c : Dev nD) (t : Fin cfg3.N) (y : S256x768.Idx) : (dat3 V c).after 5 t y = tailAt V c (row8 t (y 0)) (y 1) := by
  rw [after3_5]
  obtain ⟨r, q, rfl⟩ : ∃ (r : Fin 256) (q : Fin 768), y = ix2 r q := ⟨y 0, y 1, idx2 y _ _ rfl rfl⟩
  exact tail_pt V c t r q

/-- The last kernel's array. -/
theorem tail_all (c : Dev nD) : (dat3 V c).arrAt 5 cfg3.N = fun x : S2048x768.Idx => tailAt V c (x 0) (x 1) :=
  (dat3 V c).arrAt_eq_of_covers 5 (fun x : S2048x768.Idx => tailAt V c (x 0) (x 1)) cov3_5
    (fun t _ y => (tail_after V c t y).trans (congrArg (fun x : S2048x768.Idx => tailAt V c (x 0) (x 1)) (emb3_5 t y).symm))
    (Memref.isWhole_whole _)

end Cert.KernelIdeal.Val
-- ==== Proof.Good.lean ====
/- What the stated precondition gives, and the kernel's forms of the attention read as the layer's under it. -/
module

public import proofs.«01_k».proof.Proof.Spec
public import proofs.«01_k».proof.Proof.Head

@[expose] public section

noncomputable section

namespace Cert.Spec

open Idealize.ShloMosaic Idealize.ShloMosaic.ValueIdx Cert.Soft Cert.Ops Cert.Attn

/-- Six weights finite, the sliding mask the window of 32, the fine mask causal with a selected entry in every row. -/
structure Good (A : In) : Prop where
  w4 : ∀ i j, IsR (A.a4 (ix2 i j))
  w5 : ∀ i j, IsR (A.a5 (ix2 i j))
  w8 : ∀ i j, IsR (A.a8 (ix2 i j))
  w9 : ∀ i j, IsR (A.a9 (ix2 i j))
  w10 : ∀ i j, IsR (A.a10 (ix2 i j))
  w11 : ∀ i j, IsR (A.a11 (ix2 i j))
  win : ∀ i j : Fin 2048, A.a15 (ix2 i j) = 1#1 ↔ j.val ≤ i.val ∧ i.val - j.val < 32
  caus : ∀ i j : Fin 2048, A.a16 (ix2 i j) = 1#1 → j.val ≤ i.val
  row : ∀ i : Fin 2048, ∃ j : Fin 2048, A.a16 (ix2 i j) = 1#1

/-- The addend read off a widened selection bit. -/
theorem fM_bit (b : BitVec 1) : fM (b.setWidth 8) = if b = 1#1 then 0 else ⊥ := by
  rcases BitVec.eq_zero_or_eq_one b with rfl | rfl
  · exact fM_zero.trans (if_neg (by decide)).symm
  · exact fM_one.trans (if_pos rfl).symm

/-- Adding 0 keeps a score and adding −∞ masks it. -/
theorem add_mask (p : Prop) [Decidable p] (x : EReal) : x + (if p then 0 else ⊥) = if p then x else ⊥ := by
  split
  · rw [add_zero]
  · exact EReal.add_bot x

variable {A : In}

theorem isR_h (i : Fin 2048) (c : Fin 768) : IsR (A.h i c) := by
  obtain ⟨n, hn, en⟩ := ofBits_768
  obtain ⟨e, he, ee⟩ := ofBits_eps
  unfold In.h n768 eps
  rw [en, ee]
  exact isR_nrm hn he _ _

theorem isR_c8 : IsR c8 := by
  obtain ⟨r, _, e⟩ := ofBits_eighth
  exact ⟨r, e⟩

theorem scaled (f g : Fin 64 → EReal) : ∑ d, (f d * c8) * g d = (∑ d, f d * g d) * c8 := by
  obtain ⟨r, hr, e⟩ := ofBits_eighth
  unfold c8
  rw [e]
  exact scale_sum f g hr.le

/-- A row of the norm against finite weights is a real number. -/
theorem isR_row (i : Fin 2048) (w : Fin 768 → EReal) (hw : ∀ c, IsR (w c)) : IsR (∑ c, A.h i c * w c) :=
  IsR.sum _ _ fun c _ => (isR_h i c).mul (hw c)

namespace Good

variable (G : Good A)
include G

theorem isR_q (H : Fin 12) (i : Fin 2048) (d : Fin 64) : IsR (A.q H i d) := isR_row i _ fun _ => G.w4 _ _
theorem isR_k (H : Fin 12) (i : Fin 2048) (d : Fin 64) : IsR (A.k H i d) := isR_row i _ fun _ => G.w5 _ _
theorem isR_ck (H : Fin 12) (b : Fin 512) (d : Fin 64) : IsR (A.ck H b d) :=
  IsR.sum _ _ fun t _ => ((G.isR_k H _ _).add (G.w8 _ _)).mul (G.w10 t d)

/-- A query against a real row, scaled, is a real number. -/
theorem isR_score (H : Fin 12) (i : Fin 2048) (w : Fin 64 → EReal) (hw : ∀ d, IsR (w d)) : IsR ((∑ d, A.q H i d * w d) * c8) :=
  (IsR.sum _ _ fun d _ => (G.isR_q H i d).mul (hw d)).mul isR_c8

theorem ck_split (H : Fin 12) (b : Fin 512) (d : Fin 64) :
    (∑ t, A.k H (crow b t) (lane t) * A.a10 (ix2 t d)) + ∑ t, A.a8 (ix2 (quart t) (lane t)) * A.a10 (ix2 t d) = A.ck H b d :=
  (sum_add_mul _ _ _ (fun _ => G.w8 _ _) (fun _ => G.w10 _ _)).symm

theorem cv_split (H : Fin 12) (b : Fin 512) (d : Fin 64) :
    (∑ t, A.v H (crow b t) (lane t) * A.a11 (ix2 t d)) + ∑ t, A.a9 (ix2 (quart t) (lane t)) * A.a11 (ix2 t d) = A.cv H b d :=
  (sum_add_mul _ _ _ (fun _ => G.w9 _ _) (fun _ => G.w11 _ _)).symm

/-- A real score kept or masked is never +∞. -/
theorem kept_ne_top (p : Prop) [Decidable p] {x : EReal} (hx : IsR x) : (if p then x else ⊥) ≠ ⊤ := by
  split
  · exact hx.ne_top
  · exact bot_ne_top

theorem cs_eq (H : Fin 12) (i : Fin 2048) (b : Fin 512) :
    (∑ e, (A.q H i e * c8) * A.ck H b e) + cM 0 i.val b.val = A.cs H i b := by
  unfold cM In.cs
  rw [scaled, add_mask, Nat.zero_add]

theorem fs_eq (H : Fin 12) (i j : Fin 2048) :
    (∑ e, (A.q H i e * c8) * A.k H j e) + fM ((A.a16 (ix2 i j)).setWidth 8) = A.fs H i j := by
  unfold In.fs
  rw [scaled, fM_bit, add_mask]

theorem ss_eq (H : Fin 12) (i j : Fin 2048) :
    (∑ e, (A.q H i e * c8) * A.k H j e) + sM 0 i.val j.val = A.ss H i j := by
  unfold sM In.ss
  rw [scaled, add_mask, Nat.zero_add]
  exact if_congr (G.win i j).symm rfl rfl

theorem cs_ne_top (H : Fin 12) (i : Fin 2048) (b : Fin 512) : A.cs H i b ≠ ⊤ := G.kept_ne_top _ (G.isR_score H i _ (G.isR_ck H b))
theorem fs_ne_top (H : Fin 12) (i j : Fin 2048) : A.fs H i j ≠ ⊤ := G.kept_ne_top _ (G.isR_score H i _ (G.isR_k H j))
theorem ss_ne_top (H : Fin 12) (i j : Fin 2048) : A.ss H i j ≠ ⊤ := G.kept_ne_top _ (G.isR_score H i _ (G.isR_k H j))

theorem fs_some (H : Fin 12) (i : Fin 2048) : ∃ j, A.fs H i j ≠ ⊥ := by
  obtain ⟨j, hj⟩ := G.row i
  refine ⟨j, ?_⟩
  unfold In.fs
  rw [if_pos hj]
  exact (G.isR_score H i _ (G.isR_k H j)).ne_bot

theorem ss_some (H : Fin 12) (i : Fin 2048) : ∃ j, A.ss H i j ≠ ⊥ := by
  refine ⟨i, ?_⟩
  unfold In.ss
  rw [if_pos ((G.win i i).2 ⟨le_refl _, by omega⟩)]
  exact (G.isR_score H i _ (G.isR_k H i)).ne_bot

/-- The kernel's head is the layer's. -/
theorem head_eq (H : Fin 12) (i : Fin 2048) (d : Fin 64) (g : Fin 4 → EReal) (h0 : g 0 = A.g H i 0) (h1 : g 1 = A.g H i 1)
    (h2 : g 2 = A.g H i 2) :
    headOut 0 i.val (fun e => A.q H i e * c8) (A.k H) (A.v H) (A.ck H) (A.cv H) (fun z => fM ((A.a16 (ix2 i z)).setWidth 8)) g d
      = A.attn H i d := by
  unfold headOut In.attn
  simp only [G.cs_eq, G.fs_eq, G.ss_eq, h0, h1, h2]
  rw [softC_eq_softR _ _ (G.cs_ne_top H i), softK_eq_softR _ _ (G.fs_ne_top H i) (G.fs_some H i),
    softK_eq_softR _ _ (G.ss_ne_top H i) (G.ss_some H i)]

end Good

end Cert.Spec
-- ==== Proof.ChainOut.lean ====
/- The later launches' operands and results in terms of the arguments, up to the program's result. -/
module

public import proofs.«01_k».proof.Proof.Chain
public import proofs.«01_k».proof.Proof.Comp
public import proofs.«01_k».proof.Proof.AttArr
public import proofs.«01_k».proof.Proof.Tail
public import proofs.«01_k».proof.Proof.Good

@[expose] public section

set_option maxRecDepth 16384

noncomputable section

namespace Cert.KernelIdeal.Val

open Cert.KernelIdeal Cert.KernelIdeal.Gen
open Idealize.ShloMosaic Idealize.ShloMosaic.TcCoe Idealize.ShloMosaic.ValueIdx Idealize.ShloMosaic.Pipeline Cert.Spec Cert.Soft Cert.Attn Idealize.SL.Sem

variable (m : (ℓ : Loc nD τ sig) → Buf (Elt Idealize.ShloMosaic.Ideal) ℓ) (ρ : Dev nD → PrngReg) (c : Dev nD)

/-- The attention launch reads the first launch's results as they were left. -/
theorem carry (r : Ref sig .tc) (h2 : r ∉ hostOps2_W) (h1 : ∀ w : Fin cfg1.W, Pipeline.arrRef spec1 w = r → (cfg1.win w).isOut = false)
    (h0 : r ∉ hostOps1_W) : W7 m ρ c (Proc.devRef .tc r) = W4 m ρ c (Proc.devRef .tc r) :=
  (W7_of m ρ c r h2).trans ((W6_of m ρ c r h1).trans (W5_of m ρ c r h0))

theorem at_q (H : Fin 12) (i : Fin 2048) (d : Fin 64) : rd3 (V7 m ρ c main_v6_1) H i d = (inp m c).q H i d * c8 :=
  (congrFun (carry m ρ c main_v6_1 (by decide) (by decide) (by decide)) (ix3 H i d)).trans (q_out m ρ c H i d)
theorem at_k (H : Fin 12) (i : Fin 2048) (d : Fin 64) : rd3 (V7 m ρ c main_v6_2) H i d = (inp m c).k H i d :=
  (congrFun (carry m ρ c main_v6_2 (by decide) (by decide) (by decide)) (ix3 H i d)).trans (k_out m ρ c H i d)
theorem at_v (H : Fin 12) (i : Fin 2048) (d : Fin 64) : rd3 (V7 m ρ c main_v6_3) H i d = (inp m c).v H i d :=
  (congrFun (carry m ρ c main_v6_3 (by decide) (by decide) (by decide)) (ix3 H i d)).trans (v_out m ρ c H i d)
theorem at_g (H : Fin 12) (i : Fin 2048) (u : Fin 3) : rd3 (V7 m ρ c main_v6_4) H i ⟨u.val, by omega⟩ = (inp m c).g H i u :=
  (congrFun (carry m ρ c main_v6_4 (by decide) (by decide) (by decide)) (ix3 H i ⟨u.val, by omega⟩)).trans (g_out m ρ c H i u)

theorem at_mask (i j : Fin 2048) : V7 m ρ c main_v16 (ix2 i j) = ((inp m c).a16 (ix2 i j)).setWidth 8 :=
  (congrFun (rd_v16 (W6 m ρ c)) (ix2 i j)).trans
    (congrArg (BitVec.setWidth 8) (congrFun (W6_args m ρ c main_arg16 (by decide)) (ix2 i j)))

theorem in_v7 (H : Fin 12) (b : Fin 512) (t : Fin 256) : rd3 (V5 m ρ c main_v7) H b t = (inp m c).k H (crow b t) (lane t) :=
  (rd_v7 (W4 m ρ c) H b t).trans (k_out m ρ c H _ _)
theorem in_v8 (H : Fin 12) (b : Fin 512) (t : Fin 256) : rd3 (V5 m ρ c main_v8) H b t = (inp m c).v H (crow b t) (lane t) :=
  (rd_v8 (W4 m ρ c) H b t).trans (v_out m ρ c H _ _)
theorem in_v12 (t : Fin 256) : rd2 (V5 m ρ c main_v12) 0 t = (inp m c).a8 (ix2 (quart t) (lane t)) :=
  (rd_v12 (W4 m ρ c) t).trans (congrFun (W4_args m ρ c main_arg8 (by decide)) (ix2 (quart t) (lane t)))
theorem in_v14 (t : Fin 256) : rd2 (V5 m ρ c main_v14) 0 t = (inp m c).a9 (ix2 (quart t) (lane t)) :=
  (rd_v14 (W4 m ρ c) t).trans (congrFun (W4_args m ρ c main_arg9 (by decide)) (ix2 (quart t) (lane t)))
theorem in_v9 (t : Fin 256) (d : Fin 64) : rd2 (V5 m ρ c main_v9) t d = (inp m c).a10 (ix2 t d) :=
  congrFun ((rd_v9 (W4 m ρ c)).trans (W4_args m ρ c main_arg10 (by decide))) (ix2 t d)
theorem in_v10 (t : Fin 256) (d : Fin 64) : rd2 (V5 m ρ c main_v10) t d = (inp m c).a11 (ix2 t d) :=
  congrFun ((rd_v10 (W4 m ρ c)).trans (W4_args m ρ c main_arg11 (by decide))) (ix2 t d)

/-- A compressed row once its operands are known. -/
theorem comp_of {X : S12x512x256.Idx → EReal} {p : S1x256.Idx → EReal} {w : S256x64.Idx → EReal} (H : Fin 12) (b : Fin 512) (d : Fin 64)
    {x' p' w' : Fin 256 → EReal} (hX : ∀ t, rd3 X H b t = x' t) (hp : ∀ t, rd2 p 0 t = p' t) (hw : ∀ t, rd2 w t d = w' t) :
    compAt X p w H b d = (∑ t, x' t * w' t) + ∑ t, p' t * w' t :=
  congrArg₂ (· + ·) (Finset.sum_congr rfl fun t _ => congrArg₂ (· * ·) (hX t) (hw t))
    (Finset.sum_congr rfl fun t _ => congrArg₂ (· * ·) (hp t) (hw t))

/-- Two heads whose operands agree at every element agree. -/
theorem head_of (r : Nat) {Q Q' : Fin 64 → EReal} {K K' V V' : Fin 2048 → Fin 64 → EReal} {CK CK' CV CV' : Fin 512 → Fin 64 → EReal}
    {M M' : Fin 2048 → EReal} (g : Fin 4 → EReal) (d : Fin 64) (hQ : ∀ e, Q e = Q' e) (hK : ∀ z e, K z e = K' z e) (hV : ∀ z e, V z e = V' z e)
    (hCK : ∀ z e, CK z e = CK' z e) (hCV : ∀ z e, CV z e = CV' z e) (hM : ∀ z, M z = M' z) :
    headOut 0 r Q K V CK CV M g d = headOut 0 r Q' K' V' CK' CV' M' g d := by
  obtain rfl := funext hQ
  obtain rfl := funext fun z => funext (hK z)
  obtain rfl := funext fun z => funext (hV z)
  obtain rfl := funext fun z => funext (hCK z)
  obtain rfl := funext fun z => funext (hCV z)
  obtain rfl := funext hM
  rfl

/-- Two feed-forward rows whose operands agree at every element agree. -/
theorem mlp_of {a a' : Fin 768 → Fin 3072 → EReal} {b b' : Fin 3072 → Fin 768 → EReal} {r r' : Fin 768 → EReal} (k : Fin 768)
    (ha : ∀ i j, a i j = a' i j) (hb : ∀ i j, b i j = b' i j) (hr : ∀ i, r i = r' i) : mlp a b r k = mlp a' b' r' k := by
  obtain rfl := funext fun i => funext (ha i)
  obtain rfl := funext fun i => funext (hb i)
  obtain rfl := funext hr
  rfl

variable (G : Good (inp m c))
include G

theorem at_ck (H : Fin 12) (b : Fin 512) (d : Fin 64) : rd3 (V7 m ρ c main_v15_0) H b d = (inp m c).ck H b d :=
  (congrFun ((W7_of m ρ c main_v15_0 (by decide)).trans ((W6_arr m ρ c 6).trans (comp_all6 (V5 m ρ) c))) (ix3 H b d)).trans
    ((comp_of H b d (in_v7 m ρ c H b) (in_v12 m ρ c) (fun t => in_v9 m ρ c t d)).trans (G.ck_split H b d))
theorem at_cv (H : Fin 12) (b : Fin 512) (d : Fin 64) : rd3 (V7 m ρ c main_v15_1) H b d = (inp m c).cv H b d :=
  (congrFun ((W7_of m ρ c main_v15_1 (by decide)).trans ((W6_arr m ρ c 7).trans (comp_all7 (V5 m ρ) c))) (ix3 H b d)).trans
    ((comp_of H b d (in_v8 m ρ c H b) (in_v14 m ρ c) (fun t => in_v10 m ρ c t d)).trans (G.cv_split H b d))

/-- The fine mask drops every later row. -/
theorem causal : Causal (V7 m ρ) c := fun i z hz => by
  rw [at_mask, fM_bit, if_neg fun h => absurd (G.caus i z h) (by omega)]

theorem att_eq (H : Fin 12) (i : Fin 2048) (d : Fin 64) : attAt (V7 m ρ) c H i d = (inp m c).attn H i d :=
  (head_of i.val _ d (at_q m ρ c H i) (at_k m ρ c H) (at_v m ρ c H) (at_ck m ρ c G H) (at_cv m ρ c G H)
    (fun z => congrArg fM (at_mask m ρ c i z))).trans
    (G.head_eq H i d _ (at_g m ρ c H i 0) (at_g m ρ c H i 1) (at_g m ρ c H i 2))

theorem in_v18 (i : Fin 2048) (k : Fin 768) : rd2 (V9 m ρ c main_v18) i k = (inp m c).attnF i k :=
  (congrFun ((W9_of m ρ c main_v18 (by decide)).trans ((W8_arr m ρ c 8).trans (att_all (V7 m ρ) c (causal m ρ c G)))) (ix2 i k)).trans
    (att_eq m ρ c G _ i _)

omit G in
theorem in_x1 (i : Fin 2048) (k : Fin 768) : rd2 (V9 m ρ c main_v6_0) i k = (inp m c).x1 i k :=
  (congrFun ((W9_of m ρ c main_v6_0 (by decide)).trans ((W8_of m ρ c main_v6_0 (by decide)).trans
    (carry m ρ c main_v6_0 (by decide) (by decide) (by decide)))) (ix2 i k)).trans (x1_out m ρ c i k)
omit G in
theorem in_v19 (i k : Fin 768) : rd2 (V9 m ρ c main_v19) i k = (inp m c).a7 (ix2 i k) :=
  congrFun ((rd_v19 (W8 m ρ c)).trans (W8_args m ρ c main_arg7 (by decide))) (ix2 i k)
omit G in
theorem in_v20 (i : Fin 768) (k : Fin 3072) : rd2 (V9 m ρ c main_v20) i k = (inp m c).a13 (ix2 i k) :=
  congrFun ((rd_v20 (W8 m ρ c)).trans (W8_args m ρ c main_arg13 (by decide))) (ix2 i k)
omit G in
theorem in_v21 (i : Fin 3072) (k : Fin 768) : rd2 (V9 m ρ c main_v21) i k = (inp m c).a14 (ix2 i k) :=
  congrFun ((rd_v21 (W8 m ρ c)).trans (W8_args m ρ c main_arg14 (by decide))) (ix2 i k)

theorem tail_eq (i : Fin 2048) (k : Fin 768) : tailAt (V9 m ρ) c i k = (inp m c).out i k :=
  mlp_of k (in_v20 m ρ c) (in_v21 m ρ c) fun l => congrArg₂ (· + ·) (in_x1 m ρ c i l)
    (Finset.sum_congr rfl fun j _ => congrArg₂ (· * ·) (in_v18 m ρ c G i j) (in_v19 m ρ c j l))

/-- The program's result is the layer's, element by element. -/
theorem out_eq (i : Fin 2048) (k : Fin 768) : rd3 (W11 m ρ c (Proc.devRef .tc main_v23)) 0 i k = (inp m c).out i k :=
  (rd_v23 (W10 m ρ c) i k).trans
    ((congrFun ((W10_arr m ρ c 5).trans (tail_all (V9 m ρ) c)) (ix2 i k)).trans (tail_eq m ρ c G i k))

end Cert.KernelIdeal.Val
-- ==== Proof.Run.lean ====
/- The run of the whole program: every unscoped buffer ends at the contents the boundaries' fold gives it. The launch's set-up
   follows the generated frame's. -/
module

public import proofs.«01_k».proof.Proof.Gen.KernelIdeal.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

set_option backward.isDefEq.respectTransparency.types false in
/-- Every fair run ends with every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W11 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) :
            sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ))
        ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => h)

end Cert.KernelIdeal.Val
-- ==== Proof.PreRead.lean ====
/- The stated precondition read at an element. -/
module

public import proofs.«01_k».proof.Pre_finite_weights_causal_masks
public import proofs.«01_k».proof.Proof.Good
public import Idealize.ShloMosaic.PureOps.Reduce
public import Idealize.ShloMosaic.Lib.Pointwise.ElementwiseCore

@[expose] public section

set_option maxRecDepth 16384

noncomputable section

namespace Cert.PreRead

open Idealize.ShloMosaic Idealize.ShloMosaic.ValueIdx Cert.Soft Cert.Attn Cert.Spec Cert.Ops
open Cert.Pre_finite_weights_causal_masks (S_ S2048 S2048x2048 S2048x1 S1x2048 S768x768 S4x64 S256x64)

/-- The shapes' relations the precondition's text rests on. -/
instance facts : Cert.Pre_finite_weights_causal_masks.Facts where
  bcast_S2048_S2048x1_0 := by decide
  bcast_S2048_S1x2048_1 := by decide
  bcast_S1x2048_S2048x2048_0_1 := by decide
  bcast_S2048x1_S2048x2048_0_1 := by decide
  bcast_S_S2048x2048 := by decide
  bcast_S_S768x768 := by decide
  bcast_S_S4x64 := by decide
  bcast_S_S256x64 := by decide
  reducesTo_S2048x2048_S2048_d1 := by decide
  h_S_ := by decide

/-- The word of +∞. -/
theorem ofBits_inf : Ideal.ofBits .f32 0x7F800000#32 = (⊤ : EReal) := by
  simp [Ideal.ofBits, Ideal.ieee]

/-- An array whose elements' absolute values all compare below +∞ has real elements. -/
theorem real_of {s : Shape} (x : FVec Ideal s .f32) (h : S_.BroadcastsInDim s ![])
    (e : cmpf .olt (Host.absf x) (broadcastInDim s ![] h (constant (F := Ideal) S_ .f32 0x7F800000#32)) = fun _ => 1#1) (i : s.Idx) :
    IsR (x i) := by
  have e1 : FloatOps.cmpf (F := Ideal) (φ := .f32) .olt (max (x i) (-(x i)) : EReal) (Ideal.ofBits .f32 0x7F800000#32) = 1#1 := congrFun e i
  rw [ofBits_inf] at e1
  refine isR_of_abs ?_
  by_contra hn
  have : FloatOps.cmpf (F := Ideal) (φ := .f32) .olt (max (x i) (-(x i)) : EReal) ⊤ = 0#1 := by
    show BitVec.ofBool (decide ((max (x i) (-(x i)) : EReal) < ⊤)) = 0#1
    rw [decide_eq_false hn]; rfl
  rw [this] at e1
  exact absurd e1 (by decide)

/-- A chain of bits joined by or is set only when one of them is. -/
theorem some_bit {n : Nat} (f : Fin n → BitVec 1) (s : Finset (Fin n)) (h : s.fold IntOp.ori 0#1 f = 1#1) : ∃ j, f j = 1#1 := by
  classical
  induction s using Finset.induction_on with
  | empty =>
    rw [Finset.fold_empty] at h
    exact absurd h (by decide)
  | insert a s ha ih =>
    rw [Finset.fold_insert ha] at h
    rcases BitVec.eq_zero_or_eq_one (f a) with e | e
    · rw [e] at h
      exact ih (by simpa [IntOp.ori] using h)
    · exact ⟨a, e⟩

/-- A column number down every row, and a row number across every column. -/
theorem colIx (h0 : S2048.BroadcastsInDim S1x2048 ![1]) (h1 : S1x2048.BroadcastsInDim S2048x2048 ![0, 1]) (i j : Fin 2048) :
    broadcastInDim S2048x2048 ![0, 1] h1 (broadcastInDim S1x2048 ![1] h0 (iotaInDim S2048 32 0)) (ix2 i j) = BitVec.ofNat 32 j.val := by
  rw [broadcastInDim_apply _ h1 _ (ix2 i j) (ix2 0 j) (fun a => match a with | ⟨0, _⟩ => rfl | ⟨1, _⟩ => rfl),
    broadcastInDim_apply _ h0 _ (ix2 0 j) (ix1 j) (fun a => match a with | ⟨0, _⟩ => rfl)]
  rfl

theorem rowIx (h0 : S2048.BroadcastsInDim S2048x1 ![0]) (h1 : S2048x1.BroadcastsInDim S2048x2048 ![0, 1]) (i j : Fin 2048) :
    broadcastInDim S2048x2048 ![0, 1] h1 (broadcastInDim S2048x1 ![0] h0 (iotaInDim S2048 32 0)) (ix2 i j) = BitVec.ofNat 32 i.val := by
  rw [broadcastInDim_apply _ h1 _ (ix2 i j) (ix2 i 0) (fun a => match a with | ⟨0, _⟩ => rfl | ⟨1, _⟩ => rfl),
    broadcastInDim_apply _ h0 _ (ix2 i 0) (ix1 i) (fun a => match a with | ⟨0, _⟩ => rfl)]
  rfl

/-- Whether the column is not after the row, as the precondition states it. -/
def causV : IVec S2048x2048 1 :=
  cmpi .sle (broadcastInDim S2048x2048 ![0, 1] facts.bcast_S1x2048_S2048x2048_0_1 (broadcastInDim S1x2048 ![1] facts.bcast_S2048_S1x2048_1 (iotaInDim S2048 32 0)))
    (broadcastInDim S2048x2048 ![0, 1] facts.bcast_S2048x1_S2048x2048_0_1 (broadcastInDim S2048x1 ![0] facts.bcast_S2048_S2048x1_0 (iotaInDim S2048 32 0)))

/-- Whether it is also within 32 of it. -/
def winV : IVec S2048x2048 1 :=
  andi causV (cmpi .slt
    (subi (broadcastInDim S2048x2048 ![0, 1] facts.bcast_S2048x1_S2048x2048_0_1 (broadcastInDim S2048x1 ![0] facts.bcast_S2048_S2048x1_0 (iotaInDim S2048 32 0)))
      (broadcastInDim S2048x2048 ![0, 1] facts.bcast_S1x2048_S2048x2048_0_1 (broadcastInDim S1x2048 ![1] facts.bcast_S2048_S1x2048_1 (iotaInDim S2048 32 0))))
    (broadcastInDim S2048x2048 ![] facts.bcast_S_S2048x2048 (constantI S_ 32 32#32)))

theorem causV_apply (i j : Fin 2048) : causV (ix2 i j) = if j.val ≤ i.val then 1#1 else 0#1 := by
  unfold causV
  rw [cmpi_apply, colIx, rowIx]
  exact sle_small (by omega) (by omega)

theorem winV_apply (i j : Fin 2048) : winV (ix2 i j) = if j.val ≤ i.val ∧ i.val - j.val < 32 then 1#1 else 0#1 := by
  refine Eq.trans ?_ (sword (a := i.val) (b := j.val) (by omega) (by omega))
  unfold winV causV
  rw [andi_apply, cmpi_apply, cmpi_apply, subi_apply, colIx, rowIx]
  rfl

/-- The nine conditions together, on the arguments they read. -/
theorem good_of (A : In)
    (h4 : cmpf .olt (Host.absf A.a4) (broadcastInDim S768x768 ![] facts.bcast_S_S768x768 (constant (F := Ideal) S_ .f32 0x7F800000#32)) = fun _ => 1#1)
    (h5 : cmpf .olt (Host.absf A.a5) (broadcastInDim S768x768 ![] facts.bcast_S_S768x768 (constant (F := Ideal) S_ .f32 0x7F800000#32)) = fun _ => 1#1)
    (h8 : cmpf .olt (Host.absf A.a8) (broadcastInDim S4x64 ![] facts.bcast_S_S4x64 (constant (F := Ideal) S_ .f32 0x7F800000#32)) = fun _ => 1#1)
    (h9 : cmpf .olt (Host.absf A.a9) (broadcastInDim S4x64 ![] facts.bcast_S_S4x64 (constant (F := Ideal) S_ .f32 0x7F800000#32)) = fun _ => 1#1)
    (h10 : cmpf .olt (Host.absf A.a10) (broadcastInDim S256x64 ![] facts.bcast_S_S256x64 (constant (F := Ideal) S_ .f32 0x7F800000#32)) = fun _ => 1#1)
    (h11 : cmpf .olt (Host.absf A.a11) (broadcastInDim S256x64 ![] facts.bcast_S_S256x64 (constant (F := Ideal) S_ .f32 0x7F800000#32)) = fun _ => 1#1)
    (hw : cmpi .eq A.a15 winV = fun _ => 1#1) (hc : ori (noti A.a16) causV = fun _ => 1#1)
    (hr : Host.reduce (s := S2048x2048) (t := S2048) (u := S_) IntOp.ori (A.a16 : IVec S2048x2048 1) (constantI S_ 1 0#1) facts.reducesTo_S2048x2048_S2048_d1 facts.h_S_ = fun _ => 1#1) : Good A where
  w4 i j := real_of _ _ h4 (ix2 i j)
  w5 i j := real_of _ _ h5 (ix2 i j)
  w8 i j := real_of _ _ h8 (ix2 i j)
  w9 i j := real_of _ _ h9 (ix2 i j)
  w10 i j := real_of _ _ h10 (ix2 i j)
  w11 i j := real_of _ _ h11 (ix2 i j)
  win i j := by
    have e : IntOp.cmpi .eq (A.a15 (ix2 i j)) (winV (ix2 i j)) = 1#1 := congrFun hw (ix2 i j)
    have e2 : A.a15 (ix2 i j) = winV (ix2 i j) := by
      rcases BitVec.eq_zero_or_eq_one (A.a15 (ix2 i j)) with a | a <;> rcases BitVec.eq_zero_or_eq_one (winV (ix2 i j)) with b | b <;>
        rw [a, b] at e ⊢ <;> exact absurd e (by decide)
    rw [e2, winV_apply]
    split <;> simp_all
  caus i j h := by
    have e : ~~~(A.a16 (ix2 i j)) ||| causV (ix2 i j) = 1#1 := congrFun hc (ix2 i j)
    rw [h, causV_apply] at e
    by_contra hn
    rw [if_neg hn] at e
    exact absurd e (by decide)
  row i := by
    have e := congrFun hr (ix1 i)
    rw [Host.reduce_eq_fold_single _ _ _ facts.reducesTo_S2048x2048_S2048_d1 (by decide)] at e
    obtain ⟨j, hj⟩ := some_bit _ _ e
    exact ⟨j, (congrArg A.a16 (lift_row _ i j)).symm.trans hj⟩

end Cert.PreRead
-- ==== Proof.RefOps.lean ====
/- The reference's repeated operation groups, each read at an index once: the norm of rows, a matrix cut into heads, rows gathered
   by fours, the softmax of score rows. -/
module

public import proofs.«01_k».proof.Proof.Spec
public import proofs.«01_k».proof.Proof.Gen.ReferenceIdeal.Read

@[expose] public section

set_option maxRecDepth 16384

noncomputable section

namespace Cert.Ref

open Idealize.ShloMosaic Idealize.ShloMosaic.ValueIdx Cert.Soft Cert.Ops Cert.Spec Cert.ReferenceIdeal Cert.ReferenceIdeal.Gen

/-- A constant spread over an array. -/
def splat (s : Shape) (h : S_.BroadcastsInDim s (![] : Fin 0 → Fin s.rank)) (w : BitVec 32) : FVec Ideal s .f32 :=
  broadcastInDim s ![] h (constant (F := Ideal) S_ .f32 w)

theorem splat_apply (s : Shape) (h) (w : BitVec 32) (i : s.Idx) : splat s h w i = Ideal.ofBits .f32 w := rfl

theorem hdiv_apply {s : Shape} (x y : FVec Ideal s .f32) (i : s.Idx) : Host.divf x y i = Ideal.div (x i) (y i) := rfl
theorem hexp_apply {s : Shape} (x : FVec Ideal s .f32) (i : s.Idx) : Host.exp x i = Ideal.exp (x i) := rfl
theorem hrsqrt_apply {s : Shape} (x : FVec Ideal s .f32) (i : s.Idx) : Host.rsqrt x i = Ideal.rsqrt (x i) := rfl

/-- The sum of each row's squares, as a column. -/
def sqsumV (x : FVec Ideal S1x2048x768 .f32) : FVec Ideal S1x2048x1 .f32 :=
  broadcastInDim S1x2048x1 ![0, 1] bcast_S1x2048_S1x2048x1_0_1
    (Host.reduceAdd (mulf x x) (constant (F := Ideal) S_ .f32 0x00000000#32) reducesTo_S1x2048x768_S1x2048_d2 h_S_)

theorem sqsumV_apply (x : FVec Ideal S1x2048x768 .f32) (i : Fin 2048) :
    sqsumV x (ix3 0 i 0) = ∑ k : Fin 768, x (ix3 0 i k) * x (ix3 0 i k) := by
  unfold sqsumV
  rw [broadcastInDim_apply _ _ _ (ix3 0 i 0) (ix2 0 i : S1x2048.Idx) (fun a => by
    match a with | ⟨0, _⟩ => rfl | ⟨1, _⟩ => rfl)]
  simp only [Host.reduceAdd, Ideal.hostReduceAdd_def]
  rw [Ideal.hostReduceAdd_single reducesTo_S1x2048x768_S1x2048_d2 (by decide)]
  refine (congrArg (· + _) ofBits_zero).trans ((zero_add _).trans (Finset.sum_congr rfl fun k _ => ?_))
  exact congrArg (mulf x x) (funext fun a => Fin.ext (by match a with | ⟨0, _⟩ => rfl | ⟨1, _⟩ => rfl | ⟨2, _⟩ => rfl))

/-- The norm of each row, as the reference prints it. -/
def normV (x : FVec Ideal S1x2048x768 .f32) : FVec Ideal S1x2048x768 .f32 :=
  mulf x (broadcastInDim S1x2048x768 ![0, 1, 2] bcast_S1x2048x1_S1x2048x768_0_1_2 (Host.rsqrt (addf (Host.divf
    (sqsumV x) (splat S1x2048x1 bcast_S_S1x2048x1 0x44400000#32)) (splat S1x2048x1 bcast_S_S1x2048x1 0x358637BD#32))))

theorem normV_apply (x : FVec Ideal S1x2048x768 .f32) (i : Fin 2048) (c : Fin 768) :
    normV x (ix3 0 i c) = nrm n768 eps (fun k => x (ix3 0 i k)) c := by
  unfold normV nrm
  rw [mulf_apply, broadcastInDim_apply _ _ _ (ix3 0 i c) (ix3 0 i 0 : S1x2048x1.Idx) (fun a => by
    match a with | ⟨0, _⟩ => rfl | ⟨1, _⟩ => rfl | ⟨2, _⟩ => rfl),
    hrsqrt_apply, addf_apply, hdiv_apply, splat_apply, splat_apply, sqsumV_apply]

/-- The 768 columns cut into heads. -/
def headsV (y : FVec Ideal S1x2048x768 .f32) : FVec Ideal S1x12x2048x64 .f32 :=
  transpose S1x12x2048x64 [0, 2, 1, 3] (shapeCast S1x2048x12x64 y shapeCasts_S1x2048x768_S1x2048x12x64)
    transposes_S1x2048x12x64_S1x12x2048x64_0_2_1_3

theorem headsV_apply (y : FVec Ideal S1x2048x768 .f32) (hd : Fin 12) (i : Fin 2048) (d : Fin 64) :
    headsV y (ix4 0 hd i d) = y (ix3 0 i (col hd d)) := by
  unfold headsV
  rw [transpose_apply [0, 2, 1, 3] _ _ (ix4 0 hd i d) (ix4 0 i hd d : S1x2048x12x64.Idx) (fun b => by
    match b with | ⟨0, _⟩ => rfl | ⟨1, _⟩ => rfl | ⟨2, _⟩ => rfl | ⟨3, _⟩ => rfl)]
  exact shapeCast_apply y _ (ix4 0 i hd d) (ix3 0 i (col hd d)) (by
    rewrite [Shape.rowMajor_val_three, Shape.rowMajor_val_four]
    show (0 * 2048 + i.val) * 768 + (64 * hd.val + d.val) = ((0 * 2048 + i.val) * 12 + hd.val) * 64 + d.val
    omega)

/-- Rows gathered by fours, each with its place's row added, laid in one row. -/
def groupV (y : FVec Ideal S1x12x2048x64 .f32) (p : FVec Ideal S4x64 .f32) : FVec Ideal S1x12x512x256 .f32 :=
  shapeCast S1x12x512x256 (addf (shapeCast S1x12x512x4x64 y shapeCasts_S1x12x2048x64_S1x12x512x4x64)
    (broadcastInDim S1x12x512x4x64 ![0, 1, 2, 3, 4] bcast_S1x1x1x4x64_S1x12x512x4x64_0_1_2_3_4
      (broadcastInDim S1x1x1x4x64 ![3, 4] bcast_S4x64_S1x1x1x4x64_3_4 p))) shapeCasts_S1x12x512x4x64_S1x12x512x256

theorem groupV_apply (y : FVec Ideal S1x12x2048x64 .f32) (p : FVec Ideal S4x64 .f32) (hd : Fin 12) (b : Fin 512) (t : Fin 256) :
    groupV y p (ix4 0 hd b t) = y (ix4 0 hd (crow b t) (lane t)) + p (ix2 (quart t) (lane t)) := by
  unfold groupV
  rw [shapeCast_apply _ _ (ix4 0 hd b t : S1x12x512x256.Idx) (ix5 0 hd b (quart t) (lane t) : S1x12x512x4x64.Idx) (by
    rewrite [Shape.rowMajor_val_four, Shape.rowMajor_val_five]
    show (((0 * 12 + hd.val) * 512 + b.val) * 4 + t.val / 64) * 64 + t.val % 64 = ((0 * 12 + hd.val) * 512 + b.val) * 256 + t.val
    omega)]
  rw [addf_apply]
  refine congrArg₂ (fun a b : EReal => a + b) ?_ ?_
  · exact shapeCast_apply y _ (ix5 0 hd b (quart t) (lane t)) (ix4 0 hd (crow b t) (lane t)) (by
      rewrite [Shape.rowMajor_val_four, Shape.rowMajor_val_five]
      show ((0 * 12 + hd.val) * 2048 + (4 * b.val + t.val / 64)) * 64 + t.val % 64
        = (((0 * 12 + hd.val) * 512 + b.val) * 4 + t.val / 64) * 64 + t.val % 64
      omega)
  · rw [broadcastInDim_apply _ _ _ (ix5 0 hd b (quart t) (lane t)) (ix5 0 0 0 (quart t) (lane t) : S1x1x1x4x64.Idx) (fun a => by
      match a with | ⟨0, _⟩ => rfl | ⟨1, _⟩ => rfl | ⟨2, _⟩ => rfl | ⟨3, _⟩ => rfl | ⟨4, _⟩ => rfl)]
    exact broadcastInDim_apply _ _ p (ix5 0 0 0 (quart t) (lane t)) (ix2 (quart t) (lane t)) (fun a => by
      match a with | ⟨0, _⟩ => rfl | ⟨1, _⟩ => rfl)

/-- Score rows of `n` columns. -/
abbrev Sc (n : Nat) : Shape := ⟨4, ![1, 12, 2048, n]⟩

/-- The printed side conditions of a softmax over `n` columns. -/
structure SmSide (n : Nat) : Prop where
  rt : (Sc n).ReducesTo [3] S1x12x2048
  rd : (Sc n).Reduces [3] S1x12x2048
  bc : S1x12x2048x1.BroadcastsInDim (Sc n) (![0, 1, 2, 3] : Fin 4 → Fin (Sc n).rank)

variable {n : Nat}

/-- A reduction over the columns, at a row, meets the row's elements. -/
theorem lift4 (S : SmSide n) (hd : Fin 12) (i : Fin 2048) (k : Fin n) :
    S.rd.lift (ix3 0 hd i : S1x12x2048.Idx) k = (ix4 0 hd i k : (Sc n).Idx) := by
  funext a
  refine Fin.ext ((S.rd.lift_val (ix3 0 hd i) k a).trans ?_)
  match a with
  | ⟨0, _⟩ => simp [Shape.Reduces.liftVal, ix3, ix4]
  | ⟨1, _⟩ => simp [Shape.Reduces.liftVal, ix3, ix4]
  | ⟨2, _⟩ => simp [Shape.Reduces.liftVal, ix3, ix4]
  | ⟨3, _⟩ => simp [Shape.Reduces.liftVal, ix3, ix4]

/-- A row's value spread over the columns. -/
def spreadV (S : SmSide n) (x : FVec Ideal S1x12x2048 .f32) : FVec Ideal (Sc n) .f32 :=
  broadcastInDim (Sc n) ![0, 1, 2, 3] S.bc (broadcastInDim S1x12x2048x1 ![0, 1, 2] bcast_S1x12x2048_S1x12x2048x1_0_1_2 x)

theorem spreadV_apply (S : SmSide n) (x : FVec Ideal S1x12x2048 .f32) (hd : Fin 12) (i : Fin 2048) (j : Fin n) :
    spreadV S x (ix4 0 hd i j) = x (ix3 0 hd i) := by
  unfold spreadV
  rw [broadcastInDim_apply _ _ _ (ix4 0 hd i j : (Sc n).Idx) (ix4 0 hd i 0 : S1x12x2048x1.Idx) (fun a => by
    match a with | ⟨0, _⟩ => rfl | ⟨1, _⟩ => rfl | ⟨2, _⟩ => rfl | ⟨3, _⟩ => rfl)]
  exact broadcastInDim_apply _ _ x (ix4 0 hd i 0) (ix3 0 hd i) (fun a => by
    match a with | ⟨0, _⟩ => rfl | ⟨1, _⟩ => rfl | ⟨2, _⟩ => rfl)

/-- The largest element of each row, as printed. -/
def rowmaxV (S : SmSide n) (x : FVec Ideal (Sc n) .f32) : FVec Ideal S1x12x2048 .f32 :=
  maximumf (splat S1x12x2048 bcast_S_S1x12x2048 0xFF800000#32)
    (Host.reduce FloatOps.maximumf x (constant (F := Ideal) S_ .f32 0xFF800000#32) S.rt h_S_)

theorem rowmaxV_apply (S : SmSide n) (x : FVec Ideal (Sc n) .f32) (hd : Fin 12) (i : Fin 2048) :
    rowmaxV S x (ix3 0 hd i) = mx (fun k => x (ix4 0 hd i k)) := by
  unfold rowmaxV
  rw [maximumf_apply, splat_apply, ofBits_ninf, Host.reduce_eq_fold_single _ _ _ S.rt S.rd]
  refine (max_eq_right bot_le).trans ?_
  refine (congrArg (fun z : EReal => Finset.fold max z _ _) ofBits_ninf).trans ?_
  exact congrArg (fun f => Finset.fold max ⊥ f Finset.univ) (funext fun k => congrArg x (lift4 S hd i k))

/-- The weights' exponentials, as printed. -/
def expV (S : SmSide n) (x : FVec Ideal (Sc n) .f32) : FVec Ideal (Sc n) .f32 :=
  Host.exp (subf x (spreadV S (rowmaxV S x)))

/-- The sum of each row, as printed. -/
def rowsumV (S : SmSide n) (x : FVec Ideal (Sc n) .f32) : FVec Ideal S1x12x2048 .f32 :=
  Host.reduceAdd x (constant (F := Ideal) S_ .f32 0x00000000#32) S.rt h_S_

theorem rowsumV_apply (S : SmSide n) (x : FVec Ideal (Sc n) .f32) (hd : Fin 12) (i : Fin 2048) :
    rowsumV S x (ix3 0 hd i) = ∑ l : Fin n, x (ix4 0 hd i l) := by
  unfold rowsumV
  simp only [Host.reduceAdd, Ideal.hostReduceAdd_def]
  rw [Ideal.hostReduceAdd_single S.rt S.rd]
  refine (congrArg (· + _) ofBits_zero).trans ((zero_add _).trans (Finset.sum_congr rfl fun k _ => ?_))
  exact congrArg x (lift4 S hd i k)

/-- The softmax of each row, as printed. -/
def smaxV (S : SmSide n) (x : FVec Ideal (Sc n) .f32) : FVec Ideal (Sc n) .f32 :=
  Host.divf (expV S x) (spreadV S (rowsumV S (expV S x)))

theorem expV_apply (S : SmSide n) (x : FVec Ideal (Sc n) .f32) (hd : Fin 12) (i : Fin 2048) (j : Fin n) :
    expV S x (ix4 0 hd i j) = Ideal.exp (x (ix4 0 hd i j) - mx (fun k => x (ix4 0 hd i k))) := by
  unfold expV
  rw [hexp_apply, subf_apply, spreadV_apply, rowmaxV_apply]

theorem smaxV_apply (S : SmSide n) (x : FVec Ideal (Sc n) .f32) (hd : Fin 12) (i : Fin 2048) (j : Fin n) :
    smaxV S x (ix4 0 hd i j) = Ideal.div (Ideal.exp (x (ix4 0 hd i j) - mx (fun k => x (ix4 0 hd i k))))
      (∑ l, Ideal.exp (x (ix4 0 hd i l) - mx (fun k => x (ix4 0 hd i k)))) := by
  unfold smaxV
  rw [hdiv_apply, spreadV_apply, rowsumV_apply, expV_apply]
  exact congrArg (Ideal.div _) (Finset.sum_congr rfl fun l _ => expV_apply S x hd i l)

end Cert.Ref
-- ==== Proof.RefAttn.lean ====
/- The reference's stages up to the gated attention, read at an index. -/
module

public import proofs.«01_k».proof.Proof.RefOps
public import proofs.«01_k».proof.Proof.Masks

@[expose] public section

set_option maxRecDepth 16384

noncomputable section

namespace Cert.Ref

open Idealize.ShloMosaic Idealize.ShloMosaic.ValueIdx Cert.Soft Cert.Ops Cert.Spec Cert.ReferenceIdeal Cert.ReferenceIdeal.Gen Cert.ReferenceIdeal.Read

/-- A one-element vector reshaped to a scalar. -/
theorem scalar_apply (y : FVec Ideal S1 .f32) (j : S_.Idx) : shapeCast S_ y shapeCasts_S1_S_ j = y (ix1 0) :=
  shapeCast_apply y _ j (ix1 0) (by
    have a : (S1.rowMajor (ix1 0)).val < 1 := (S1.rowMajor (ix1 0)).isLt
    have b : (S_.rowMajor j).val < 1 := (S_.rowMajor j).isLt
    omega)

/-- A row of the stream against a column of a matrix. -/
theorem lin_idx (y : FVec Ideal S1x2048x768 .f32) (w : FVec Ideal S768x768 .f32) (i : Fin 2048) (c : Fin 768) :
    ∑ k : Fin 768, y (lidx_main_v19 (ix3 0 i c) k) * w (ridx_main_v19 (ix3 0 i c) k) = ∑ k : Fin 768, y (ix3 0 i k) * w (ix2 k c) := by
  refine Finset.sum_congr rfl fun k _ => congrArg₂ (fun a b : EReal => a * b) (congrArg y ?_) (congrArg w ?_)
  · funext a; match a with | ⟨0, _⟩ => rfl | ⟨1, _⟩ => rfl | ⟨2, _⟩ => rfl
  · funext a; match a with | ⟨0, _⟩ => rfl | ⟨1, _⟩ => rfl

variable (A : In)

theorem x1_eq (i : Fin 2048) (c : Fin 768) : val_main_v8 (F := Ideal) A.a0 A.a2 A.a3 (ix3 0 i c) = A.x1 i c := by
  rw [val_main_v8_apply, val_main_v3_apply, val_main_v2_apply, val_main_v7_apply, val_main_v6_apply]
  unfold val_main_v1 val_main_v5
  rw [scalar_apply, scalar_apply, val_main_v0_apply, val_main_v4_apply]
  unfold In.x1
  refine congrArg₂ (fun a b : EReal => a * A.a0 (ix3 0 i c) + b * A.a2 (ix3 0 i c)) (congrArg A.a3 ?_) (congrArg A.a3 ?_)
  · funext a; match a with | ⟨0, _⟩ => rfl
  · funext a; match a with | ⟨0, _⟩ => rfl

theorem h_eq (i : Fin 2048) (c : Fin 768) : val_main_v18 (F := Ideal) A.a0 A.a2 A.a3 (ix3 0 i c) = A.h i c := by
  show normV (val_main_v8 (F := Ideal) A.a0 A.a2 A.a3) (ix3 0 i c) = _
  rw [normV_apply]
  exact congrArg (fun r => nrm n768 eps r c) (funext fun k => x1_eq A i k)

/-- A product of the norm with one of the three matrices, cut into heads. -/
theorem heads_lin (w : FVec Ideal S768x768 .f32) (hd : Fin 12) (i : Fin 2048) (d : Fin 64) :
    headsV (val_main_v19 (F := Ideal) A.a0 A.a2 A.a3 w) (ix4 0 hd i d) = ∑ c, A.h i c * w (ix2 c (col hd d)) := by
  rw [headsV_apply, val_main_v19_apply, lin_idx]
  exact Finset.sum_congr rfl fun k _ => congrArg (fun z : EReal => z * _) (h_eq A i k)

theorem q_eq (hd : Fin 12) (i : Fin 2048) (d : Fin 64) : val_main_v21 (F := Ideal) A.a0 A.a2 A.a3 A.a4 (ix4 0 hd i d) = A.q hd i d :=
  heads_lin A A.a4 hd i d

theorem k_eq (hd : Fin 12) (i : Fin 2048) (d : Fin 64) : val_main_v24 (F := Ideal) A.a0 A.a2 A.a3 A.a5 (ix4 0 hd i d) = A.k hd i d :=
  heads_lin A A.a5 hd i d

theorem v_eq (hd : Fin 12) (i : Fin 2048) (d : Fin 64) : val_main_v27 (F := Ideal) A.a0 A.a2 A.a3 A.a6 (ix4 0 hd i d) = A.v hd i d :=
  heads_lin A A.a6 hd i d

/-- A gathered row against a column of a compressing matrix. -/
theorem comp_idx (y : FVec Ideal S1x12x512x256 .f32) (w : FVec Ideal S256x64 .f32) (hd : Fin 12) (b : Fin 512) (d : Fin 64) :
    ∑ k : Fin 256, y (lidx_main_v33 (ix4 0 hd b d) k) * w (ridx_main_v33 (ix4 0 hd b d) k) = ∑ k : Fin 256, y (ix4 0 hd b k) * w (ix2 k d) := by
  refine Finset.sum_congr rfl fun k _ => congrArg₂ (fun a b : EReal => a * b) (congrArg y ?_) (congrArg w ?_)
  · funext a; match a with | ⟨0, _⟩ => rfl | ⟨1, _⟩ => rfl | ⟨2, _⟩ => rfl | ⟨3, _⟩ => rfl
  · funext a; match a with | ⟨0, _⟩ => rfl | ⟨1, _⟩ => rfl

theorem ck_eq (hd : Fin 12) (b : Fin 512) (d : Fin 64) :
    val_main_v33 (F := Ideal) A.a0 A.a2 A.a3 A.a5 A.a8 A.a10 (ix4 0 hd b d) = A.ck hd b d := by
  rw [val_main_v33_apply, comp_idx]
  refine Finset.sum_congr rfl fun t _ => congrArg (fun z : EReal => z * A.a10 (ix2 t d)) ?_
  refine (groupV_apply (val_main_v24 (F := Ideal) A.a0 A.a2 A.a3 A.a5) A.a8 hd b t).trans ?_
  rw [k_eq]

theorem cv_eq (hd : Fin 12) (b : Fin 512) (d : Fin 64) :
    val_main_v39 (F := Ideal) A.a0 A.a2 A.a3 A.a6 A.a9 A.a11 (ix4 0 hd b d) = A.cv hd b d := by
  rw [val_main_v39_apply]
  refine (comp_idx _ _ hd b d).trans ?_
  refine Finset.sum_congr rfl fun t _ => congrArg (fun z : EReal => z * A.a11 (ix2 t d)) ?_
  refine (groupV_apply (val_main_v27 (F := Ideal) A.a0 A.a2 A.a3 A.a6) A.a9 hd b t).trans ?_
  rw [v_eq]

/-- A selection between a value and −∞, by a bit. -/
theorem sel_bit (w : BitVec 1) (x y : EReal) (hy : y = ⊥) : Scalar.select w x y = if w = 1#1 then x else ⊥ := by
  subst hy; rfl

/-- The scaled score of a query and a key. -/
theorem score_eq (hd : Fin 12) (i j : Fin 2048) :
    val_main_v76 (F := Ideal) A.a0 A.a2 A.a3 A.a4 A.a5 (ix4 0 hd i j) = (∑ d, A.q hd i d * A.k hd j d) * c8 := by
  rw [val_main_v76_apply, val_main_v74_apply]
  refine congrArg₂ (fun a b : EReal => a * b) (Finset.sum_congr rfl fun k _ => congrArg₂ (fun a b : EReal => a * b) ?_ ?_) rfl
  · refine Eq.trans (congrArg _ ?_) (q_eq A hd i k)
    funext a; match a with | ⟨0, _⟩ => rfl | ⟨1, _⟩ => rfl | ⟨2, _⟩ => rfl | ⟨3, _⟩ => rfl
  · refine Eq.trans (congrArg _ ?_) (k_eq A hd j k)
    funext a; match a with | ⟨0, _⟩ => rfl | ⟨1, _⟩ => rfl | ⟨2, _⟩ => rfl | ⟨3, _⟩ => rfl

theorem fs_eq (hd : Fin 12) (i j : Fin 2048) :
    val_main_v78 (F := Ideal) A.a0 A.a2 A.a3 A.a4 A.a5 A.a16 (ix4 0 hd i j) = A.fs hd i j := by
  rw [val_main_v78_apply, sel_bit _ _ (val_main_call1_v2 (F := Ideal) _) ofBits_ninf, score_eq, val_main_call1_v1_apply, val_main_v77_apply]
  have e : idx_main_v77 (idx_main_call1_v1 (ix4 0 hd i j)) = ix2 i j := by
    funext a; match a with | ⟨0, _⟩ => rfl | ⟨1, _⟩ => rfl
  rw [e]; rfl

theorem ss_eq (hd : Fin 12) (i j : Fin 2048) :
    val_main_v95 (F := Ideal) A.a0 A.a2 A.a3 A.a4 A.a5 A.a15 (ix4 0 hd i j) = A.ss hd i j := fs_eq { A with a16 := A.a15 } hd i j

theorem cbit_eq (hd : Fin 12) (i : Fin 2048) (b : Fin 512) :
    val_main_call0_v1 (F := Ideal) (ix4 0 hd i b) = if (b.val + 1) * 4 - 1 ≤ i.val then 1#1 else 0#1 := by
  rw [val_main_call0_v1_apply, val_main_v56_apply, val_main_v55_apply, val_main_v53_apply, val_main_v50_apply, val_main_v54_apply, val_main_v52_apply]
  exact Cert.Attn.cword (a := i.val) (c := b.val) (by omega) (by omega)

theorem cs_eq (hd : Fin 12) (i : Fin 2048) (b : Fin 512) :
    val_main_v57 (F := Ideal) A.a0 A.a2 A.a3 A.a4 A.a5 A.a8 A.a10 (ix4 0 hd i b) = A.cs hd i b := by
  rw [val_main_v57_apply, sel_bit _ _ (val_main_call0_v2 (F := Ideal) _) ofBits_ninf, cbit_eq, val_main_v42_apply, val_main_v40_apply]
  have e : (∑ k : Fin 64, val_main_v21 (F := Ideal) A.a0 A.a2 A.a3 A.a4 (lidx_main_v40 (ix4 0 hd i b) k)
      * val_main_v33 (F := Ideal) A.a0 A.a2 A.a3 A.a5 A.a8 A.a10 (ridx_main_v40 (ix4 0 hd i b) k)) = ∑ d, A.q hd i d * A.ck hd b d := by
    refine Finset.sum_congr rfl fun k _ => congrArg₂ (fun a b : EReal => a * b) ?_ ?_
    · refine Eq.trans (congrArg _ ?_) (q_eq A hd i k)
      funext a; match a with | ⟨0, _⟩ => rfl | ⟨1, _⟩ => rfl | ⟨2, _⟩ => rfl | ⟨3, _⟩ => rfl
    · refine Eq.trans (congrArg _ ?_) (ck_eq A hd b k)
      funext a; match a with | ⟨0, _⟩ => rfl | ⟨1, _⟩ => rfl | ⟨2, _⟩ => rfl | ⟨3, _⟩ => rfl
  rw [e]
  unfold In.cs
  by_cases h : (b.val + 1) * 4 - 1 ≤ i.val
  · rw [if_pos h, if_pos rfl, if_pos h]; rfl
  · rw [if_neg h, if_neg (by decide), if_neg h]

/-- The compressed scores with the null column. -/
theorem csn_eq (hd : Fin 12) (i : Fin 2048) (j : Fin 513) :
    val_main_v59 (F := Ideal) A.a0 A.a2 A.a3 A.a4 A.a5 A.a8 A.a10 (ix4 0 hd i j) = snoc (A.cs hd i) j := by
  unfold val_main_v59 snoc
  by_cases h : j.val < 512
  · rw [dif_pos h, concatenate_pair_apply_left (s₁ := S1x12x2048x512) (s₂ := S1x12x2048x1) (3 : Fin 4) _ _ _ (ix4 0 hd i j : S1x12x2048x513.Idx) rfl
      (ix4 0 hd i ⟨j.val, h⟩ : S1x12x2048x512.Idx) (fun b => by
        match b with | ⟨0, _⟩ => rfl | ⟨1, _⟩ => rfl | ⟨2, _⟩ => rfl | ⟨3, _⟩ => rfl)]
    exact cs_eq A hd i _
  · rw [dif_neg h, concatenate_pair_apply_right (s₁ := S1x12x2048x512) (s₂ := S1x12x2048x1) (3 : Fin 4) _ _ _ (ix4 0 hd i j : S1x12x2048x513.Idx) rfl rfl
      (ix4 0 hd i 0 : S1x12x2048x1.Idx) (fun b hb => by
        match b with | ⟨0, _⟩ => rfl | ⟨1, _⟩ => rfl | ⟨2, _⟩ => rfl | ⟨3, _⟩ => exact absurd rfl hb)
      (by show 0 + 512 = j.val; omega)]
    exact ofBits_zero

/-- The compressed values with the null row. -/
theorem cvn_eq (hd : Fin 12) (j : Fin 513) (d : Fin 64) :
    val_main_v72 (F := Ideal) A.a0 A.a2 A.a3 A.a6 A.a9 A.a11 (ix4 0 hd j d) = snoc (fun b => A.cv hd b d) j := by
  unfold val_main_v72 snoc
  by_cases h : j.val < 512
  · rw [dif_pos h, concatenate_pair_apply_left (s₁ := S1x12x512x64) (s₂ := S1x12x1x64) (2 : Fin 4) _ _ _ (ix4 0 hd j d : S1x12x513x64.Idx) rfl
      (ix4 0 hd ⟨j.val, h⟩ d : S1x12x512x64.Idx) (fun b => by
        match b with | ⟨0, _⟩ => rfl | ⟨1, _⟩ => rfl | ⟨2, _⟩ => rfl | ⟨3, _⟩ => rfl)]
    exact cv_eq A hd _ d
  · rw [dif_neg h, concatenate_pair_apply_right (s₁ := S1x12x512x64) (s₂ := S1x12x1x64) (2 : Fin 4) _ _ _ (ix4 0 hd j d : S1x12x513x64.Idx) rfl rfl
      (ix4 0 hd 0 d : S1x12x1x64.Idx) (fun b hb => by
        match b with | ⟨0, _⟩ => rfl | ⟨1, _⟩ => rfl | ⟨2, _⟩ => exact absurd rfl hb | ⟨3, _⟩ => rfl)
      (by show 0 + 512 = j.val; omega)]
    exact ofBits_zero

theorem sm513 : SmSide 513 := ⟨reducesTo_S1x12x2048x513_S1x12x2048_d3, by decide, bcast_S1x12x2048x1_S1x12x2048x513_0_1_2_3⟩
theorem sm2048 : SmSide 2048 := ⟨reducesTo_S1x12x2048x2048_S1x12x2048_d3, by decide, bcast_S1x12x2048x1_S1x12x2048x2048_0_1_2_3⟩

/-- The compressed branch. -/
theorem co_eq (hd : Fin 12) (i : Fin 2048) (d : Fin 64) :
    val_main_v73 (F := Ideal) A.a0 A.a2 A.a3 A.a4 A.a5 A.a6 A.a8 A.a9 A.a10 A.a11 (ix4 0 hd i d)
      = softR (snoc (A.cs hd i)) (snoc fun b => A.cv hd b d) := by
  rw [val_main_v73_apply]
  refine Finset.sum_congr rfl fun k _ => congrArg₂ (fun a b : EReal => a * b) ?_ ?_
  · refine Eq.trans (congrArg _ (?_ : _ = (ix4 0 hd i k : S1x12x2048x513.Idx))) ?_
    · funext a; match a with | ⟨0, _⟩ => rfl | ⟨1, _⟩ => rfl | ⟨2, _⟩ => rfl | ⟨3, _⟩ => rfl
    · refine (smaxV_apply sm513 (val_main_v59 (F := Ideal) A.a0 A.a2 A.a3 A.a4 A.a5 A.a8 A.a10) hd i k).trans ?_
      simp only [csn_eq]
  · refine Eq.trans (congrArg _ ?_) (cvn_eq A hd k d)
    funext a; match a with | ⟨0, _⟩ => rfl | ⟨1, _⟩ => rfl | ⟨2, _⟩ => rfl | ⟨3, _⟩ => rfl

/-- The fine branch. -/
theorem fo_eq (hd : Fin 12) (i : Fin 2048) (d : Fin 64) :
    val_main_v90 (F := Ideal) A.a0 A.a2 A.a3 A.a4 A.a5 A.a6 A.a16 (ix4 0 hd i d) = softR (A.fs hd i) (fun j => A.v hd j d) := by
  rw [val_main_v90_apply]
  refine Finset.sum_congr rfl fun k _ => congrArg₂ (fun a b : EReal => a * b) ?_ ?_
  · refine Eq.trans (congrArg _ (?_ : _ = (ix4 0 hd i k : S1x12x2048x2048.Idx))) ?_
    · funext a; match a with | ⟨0, _⟩ => rfl | ⟨1, _⟩ => rfl | ⟨2, _⟩ => rfl | ⟨3, _⟩ => rfl
    · refine (smaxV_apply sm2048 (val_main_v78 (F := Ideal) A.a0 A.a2 A.a3 A.a4 A.a5 A.a16) hd i k).trans ?_
      simp only [fs_eq]
  · refine Eq.trans (congrArg _ ?_) (v_eq A hd k d)
    funext a; match a with | ⟨0, _⟩ => rfl | ⟨1, _⟩ => rfl | ⟨2, _⟩ => rfl | ⟨3, _⟩ => rfl

/-- The sliding branch is the fine one on its own mask. -/
theorem so_eq (hd : Fin 12) (i : Fin 2048) (d : Fin 64) :
    val_main_v107 (F := Ideal) A.a0 A.a2 A.a3 A.a4 A.a5 A.a6 A.a15 (ix4 0 hd i d) = softR (A.ss hd i) (fun j => A.v hd j d) :=
  fo_eq { A with a16 := A.a15 } hd i d

end Cert.Ref
-- ==== Proof.RefOut.lean ====
/- The reference's gates, its mixing of the three branches, and the feed-forward: its result at an index. -/
module

public import proofs.«01_k».proof.Proof.RefAttn

@[expose] public section

set_option maxRecDepth 16384

noncomputable section

namespace Cert.Ref

open Idealize.ShloMosaic Idealize.ShloMosaic.ValueIdx Cert.Soft Cert.Ops Cert.Spec Cert.ReferenceIdeal Cert.ReferenceIdeal.Gen Cert.ReferenceIdeal.Read

variable (A : In)

theorem hneg_apply {s : Shape} (x : FVec Ideal s .f32) (i : s.Idx) : Host.negf x i = -(x i : EReal) := rfl

theorem gates_eq (i : Fin 2048) (hd : Fin 12) (e : Fin 3) :
    val_main_v114 (F := Ideal) A.a0 A.a2 A.a3 A.a12 (ix3 0 i (gcol hd e)) = A.g hd i e := by
  have d : val_main_v108 (F := Ideal) A.a0 A.a2 A.a3 A.a12 (ix3 0 i (gcol hd e)) = ∑ c, A.h i c * A.a12 (ix2 c (gcol hd e)) := by
    rw [val_main_v108_apply]
    refine Finset.sum_congr rfl fun k _ => congrArg₂ (fun a b : EReal => a * b) ?_ (congrArg A.a12 ?_)
    · refine Eq.trans (congrArg _ ?_) (h_eq A i k)
      funext a; match a with | ⟨0, _⟩ => rfl | ⟨1, _⟩ => rfl | ⟨2, _⟩ => rfl
    · funext a; match a with | ⟨0, _⟩ => rfl | ⟨1, _⟩ => rfl
  unfold val_main_v114 val_main_v112 val_main_v110 val_main_v109
  rw [hdiv_apply, addf_apply, hexp_apply, hneg_apply, d]
  unfold In.g
  exact congrArg₂ (fun a b : EReal => Ideal.div a (b + _)) ofBits_one ofBits_one

theorem g_eq (hd : Fin 12) (i : Fin 2048) (e : Fin 3) : val_main_v116 (F := Ideal) A.a0 A.a2 A.a3 A.a12 (ix4 0 hd i e) = A.g hd i e := by
  rw [val_main_v116_apply, val_main_v115_apply]
  refine Eq.trans (congrArg _ ?_) (gates_eq A i hd e)
  funext a
  match a with
  | ⟨0, _⟩ => rfl
  | ⟨1, _⟩ => exact Fin.ext (by show (((0 * 2048 + i.val) * 12 + hd.val) * 3 + e.val) / 36 % 2048 = i.val; omega)
  | ⟨2, _⟩ => exact Fin.ext (by show (((0 * 2048 + i.val) * 12 + hd.val) * 3 + e.val) % 36 = 3 * hd.val + e.val; omega)

theorem attn_eq (hd : Fin 12) (i : Fin 2048) (d : Fin 64) :
    val_main_v127 (F := Ideal) A.a0 A.a2 A.a3 A.a4 A.a5 A.a6 A.a8 A.a9 A.a10 A.a11 A.a12 A.a15 A.a16 (ix4 0 hd i d) = A.attn hd i d := by
  rw [val_main_v127_apply, val_main_v123_apply, val_main_v119_apply, val_main_v122_apply, val_main_v126_apply, co_eq, fo_eq, so_eq,
    val_main_v118_apply, val_main_v117_apply, val_main_v121_apply, val_main_v120_apply, val_main_v125_apply, val_main_v124_apply]
  have e0 : idx_main_v117 (idx_main_v118 (ix4 0 hd i d)) = ix4 0 hd i 0 := by
    funext a; match a with | ⟨0, _⟩ => rfl | ⟨1, _⟩ => rfl | ⟨2, _⟩ => rfl | ⟨3, _⟩ => rfl
  have e1 : idx_main_v120 (idx_main_v121 (ix4 0 hd i d)) = ix4 0 hd i 1 := by
    funext a; match a with | ⟨0, _⟩ => rfl | ⟨1, _⟩ => rfl | ⟨2, _⟩ => rfl | ⟨3, _⟩ => rfl
  have e2 : idx_main_v124 (idx_main_v125 (ix4 0 hd i d)) = ix4 0 hd i 2 := by
    funext a; match a with | ⟨0, _⟩ => rfl | ⟨1, _⟩ => rfl | ⟨2, _⟩ => rfl | ⟨3, _⟩ => rfl
  rw [e0, e1, e2, g_eq, g_eq, g_eq]
  rfl

theorem attnF_eq (i : Fin 2048) (c : Fin 768) :
    val_main_v129 (F := Ideal) A.a0 A.a2 A.a3 A.a4 A.a5 A.a6 A.a8 A.a9 A.a10 A.a11 A.a12 A.a15 A.a16 (ix3 0 i c) = A.attnF i c := by
  rw [val_main_v129_apply, val_main_v128_apply]
  refine Eq.trans (congrArg _ ?_) (attn_eq A ⟨c.val / 64, by omega⟩ i ⟨c.val % 64, by omega⟩)
  funext a
  match a with
  | ⟨0, _⟩ => rfl
  | ⟨1, _⟩ => exact Fin.ext (by show ((0 * 2048 + i.val) * 768 + c.val) / 64 % 12 = c.val / 64; omega)
  | ⟨2, _⟩ => exact Fin.ext (by show ((0 * 2048 + i.val) * 768 + c.val) / 768 % 2048 = i.val; omega)
  | ⟨3, _⟩ => exact Fin.ext (by show ((0 * 2048 + i.val) * 768 + c.val) % 64 = c.val % 64; omega)

theorem x2_eq (i : Fin 2048) (c : Fin 768) :
    val_main_v131 (F := Ideal) A.a0 A.a2 A.a3 A.a4 A.a5 A.a6 A.a7 A.a8 A.a9 A.a10 A.a11 A.a12 A.a15 A.a16 (ix3 0 i c) = A.x2 i c := by
  rw [val_main_v131_apply, x1_eq, val_main_v130_apply]
  refine congrArg (fun z : EReal => A.x1 i c + z) ((lin_idx _ _ i c).trans ?_)
  exact Finset.sum_congr rfl fun k _ => congrArg (fun z : EReal => z * _) (attnF_eq A i k)

theorem h2_eq (i : Fin 2048) (c : Fin 768) :
    val_main_v141 (F := Ideal) A.a0 A.a2 A.a3 A.a4 A.a5 A.a6 A.a7 A.a8 A.a9 A.a10 A.a11 A.a12 A.a15 A.a16 (ix3 0 i c) = nrm n768 eps (A.x2 i) c := by
  show normV (val_main_v131 (F := Ideal) A.a0 A.a2 A.a3 A.a4 A.a5 A.a6 A.a7 A.a8 A.a9 A.a10 A.a11 A.a12 A.a15 A.a16) (ix3 0 i c) = _
  rw [normV_apply]
  exact congrArg (fun r => nrm n768 eps r c) (funext fun k => x2_eq A i k)

theorem relu_eq (i : Fin 2048) (c : Fin 3072) :
    val_main_v143 (F := Ideal) A.a0 A.a2 A.a3 A.a4 A.a5 A.a6 A.a7 A.a8 A.a9 A.a10 A.a11 A.a12 A.a13 A.a15 A.a16 (ix3 0 i c)
      = max (∑ j, nrm n768 eps (A.x2 i) j * A.a13 (ix2 j c)) 0 := by
  rw [val_main_v143_apply, val_main_v142_apply]
  refine congrArg₂ (fun a b : EReal => max a b) (Finset.sum_congr rfl fun k _ => congrArg₂ (fun a b : EReal => a * b) ?_ (congrArg A.a13 ?_)) ofBits_zero
  · refine Eq.trans (congrArg _ ?_) (h2_eq A i k)
    funext a; match a with | ⟨0, _⟩ => rfl | ⟨1, _⟩ => rfl | ⟨2, _⟩ => rfl
  · funext a; match a with | ⟨0, _⟩ => rfl | ⟨1, _⟩ => rfl

/-- The reference's result at an index. -/
theorem out_eq (i : Fin 2048) (c : Fin 768) :
    val_main_v146 (F := Ideal) A.a0 A.a2 A.a3 A.a4 A.a5 A.a6 A.a7 A.a8 A.a9 A.a10 A.a11 A.a12 A.a13 A.a14 A.a15 A.a16 (ix3 0 i c) = A.out i c := by
  rw [val_main_v146_apply, x2_eq, val_main_v145_apply]
  refine congrArg (fun z : EReal => A.x2 i c + z) (Finset.sum_congr rfl fun k _ => congrArg₂ (fun a b : EReal => a * b) ?_ (congrArg A.a14 ?_))
  · rw [val_main_v144_apply]
    have e : lidx_main_v145 (ix3 0 i c) k = ix3 0 i k := by
      funext a; match a with | ⟨0, _⟩ => rfl | ⟨1, _⟩ => rfl | ⟨2, _⟩ => rfl
    rw [e, relu_eq]
    rfl
  · funext a; match a with | ⟨0, _⟩ => rfl | ⟨1, _⟩ => rfl

end Cert.Ref
-- ==== Proof.Assemble.lean ====
/- The two programs' results are one array, and every run of either ends with it. -/
module

public import proofs.«01_k».proof.Defs
public import proofs.«01_k».proof.Proof.ChainOut
public import proofs.«01_k».proof.Proof.Run
public import proofs.«01_k».proof.Proof.PreRead
public import proofs.«01_k».proof.Proof.RefOut
public import Idealize.ShloMosaic.Lib.Claim
public import Idealize.ShloMosaic.Lib.Quiescent

@[expose] public section

set_option maxRecDepth 16384

noncomputable section

namespace Cert.Assemble

open Idealize.ShloMosaic Idealize.ShloMosaic.TcCoe Idealize.ShloMosaic.ValueIdx Idealize.ShloMosaic.StableHlo Idealize.SL.Sem Cert.Spec

/-- The precondition of a launch memory, read at the arguments' elements. -/
theorem good (m : (ℓ : Loc KernelIdeal.nD KernelIdeal.τ KernelIdeal.sig) → Buf (Elt Ideal) ℓ)
    (h : Pre_KernelIdeal_finite_weights_causal_masks m) (c : Dev KernelIdeal.nD) : Good (KernelIdeal.Val.inp m c) := by
  obtain ⟨h1, h2, h3, h4, h5, h6, h7, h8, h9⟩ := h c
  simp only [Pre_finite_weights_causal_masks.fn, Pre_finite_weights_causal_masks.fn_part1] at h9
  exact PreRead.good_of _ h1 h2 h3 h4 h5 h6 h7 h8 h9

/-- Two results agreeing at every row and column are one array. -/
theorem ext_out {x y : (⟨3, ![1, 2048, 768]⟩ : Shape).Idx → EReal} (h : ∀ i k, x (ix3 0 i k) = y (ix3 0 i k)) : x = y := by
  funext j
  have e : j = ix3 0 (j 1) (j 2) := KernelIdeal.Val.idx3 j 0 (j 1) (j 2) (by have h0 : (j 0).val < 1 := (j 0).isLt; show (j 0).val = 0; omega) rfl rfl
  rw [e]
  exact h _ _

/-- The reference's result from a launch memory that holds the arguments `A`. -/
abbrev refOut (A : In) := ReferenceIdeal.Read.val_main_v146 (F := Ideal) A.a0 A.a2 A.a3 A.a4 A.a5 A.a6 A.a7 A.a8 A.a9 A.a10 A.a11 A.a12 A.a13 A.a14 A.a15 A.a16

theorem kernel_out (m : (ℓ : Loc KernelIdeal.nD KernelIdeal.τ KernelIdeal.sig) → Buf (Elt Ideal) ℓ) (g : Dev KernelIdeal.nD → PrngReg)
    (h : Pre_KernelIdeal_finite_weights_causal_masks m) (c : Dev KernelIdeal.nD) :
    KernelIdeal.Gen.W11 m g c (Proc.devRef .tc KernelIdeal.main_v23) = refOut (KernelIdeal.Val.inp m c) :=
  ext_out fun i k => (KernelIdeal.Val.out_eq m g c (good m h c) i k).trans (Ref.out_eq _ i k).symm

/-- The arguments as the reference's launch memory holds them. -/
def refInp (m : (ℓ : Loc ReferenceIdeal.nD ReferenceIdeal.τ ReferenceIdeal.sig) → Buf (Elt Ideal) ℓ) (c : Dev ReferenceIdeal.nD) : In where
  a0 := m ((c.tc : Thread ReferenceIdeal.nD ReferenceIdeal.τ).loc ReferenceIdeal.main_arg0)
  a2 := m ((c.tc : Thread ReferenceIdeal.nD ReferenceIdeal.τ).loc ReferenceIdeal.main_arg2)
  a3 := m ((c.tc : Thread ReferenceIdeal.nD ReferenceIdeal.τ).loc ReferenceIdeal.main_arg3)
  a4 := m ((c.tc : Thread ReferenceIdeal.nD ReferenceIdeal.τ).loc ReferenceIdeal.main_arg4)
  a5 := m ((c.tc : Thread ReferenceIdeal.nD ReferenceIdeal.τ).loc ReferenceIdeal.main_arg5)
  a6 := m ((c.tc : Thread ReferenceIdeal.nD ReferenceIdeal.τ).loc ReferenceIdeal.main_arg6)
  a7 := m ((c.tc : Thread ReferenceIdeal.nD ReferenceIdeal.τ).loc ReferenceIdeal.main_arg7)
  a8 := m ((c.tc : Thread ReferenceIdeal.nD ReferenceIdeal.τ).loc ReferenceIdeal.main_arg8)
  a9 := m ((c.tc : Thread ReferenceIdeal.nD ReferenceIdeal.τ).loc ReferenceIdeal.main_arg9)
  a10 := m ((c.tc : Thread ReferenceIdeal.nD ReferenceIdeal.τ).loc ReferenceIdeal.main_arg10)
  a11 := m ((c.tc : Thread ReferenceIdeal.nD ReferenceIdeal.τ).loc ReferenceIdeal.main_arg11)
  a12 := m ((c.tc : Thread ReferenceIdeal.nD ReferenceIdeal.τ).loc ReferenceIdeal.main_arg12)
  a13 := m ((c.tc : Thread ReferenceIdeal.nD ReferenceIdeal.τ).loc ReferenceIdeal.main_arg13)
  a14 := m ((c.tc : Thread ReferenceIdeal.nD ReferenceIdeal.τ).loc ReferenceIdeal.main_arg14)
  a15 := m ((c.tc : Thread ReferenceIdeal.nD ReferenceIdeal.τ).loc ReferenceIdeal.main_arg15)
  a16 := m ((c.tc : Thread ReferenceIdeal.nD ReferenceIdeal.τ).loc ReferenceIdeal.main_arg16)

theorem ref_out (m : (ℓ : Loc ReferenceIdeal.nD ReferenceIdeal.τ ReferenceIdeal.sig) → Buf (Elt Ideal) ℓ) (c : Dev ReferenceIdeal.nD) {A : In}
    (h : refInp m c = A) {y : (⟨3, ![1, 2048, 768]⟩ : Shape).Idx → EReal} (hy : y = refOut (refInp m c)) : y = refOut A :=
  hy.trans (congrArg refOut h)

theorem algebraic : algebraic_KernelIdeal_ReferenceIdeal_pre_finite_weights_causal_masks := fun m g m' g' hP hA =>
  ⟨fun c => refOut (KernelIdeal.Val.inp m c),
    (θ_run KernelIdeal.defs _ _).mono (fun _ h c =>
      ⟨(h.1 c _ (KernelIdeal.Gen.mem_uc KernelIdeal.main_v23 (by decide))).trans (kernel_out m g hP c), h.2 c⟩)
      (θ_run_and (KernelIdeal.Val.run_all m g) (KernelIdeal.Gen.unchanged m g)),
    (θ_run ReferenceIdeal.defs _ _).mono (fun _ h c => ⟨(h c).1.trans (ref_out m' c (by
      obtain ⟨e0, _, e2, e3, e4, e5, e6, e7, e8, e9, e10, e11, e12, e13, e14, e15, e16⟩ := hA c
      unfold refInp KernelIdeal.Val.inp
      rw [e0, e2, e3, e4, e5, e6, e7, e8, e9, e10, e11, e12, e13, e14, e15, e16]) (ReferenceIdeal.Read.val_main_v146_eq (launchContents m' c))), (h c).2⟩)
      (ReferenceIdeal.Value.run m' g')⟩

/-- Every run of the reference keeps its arguments; it has no semaphore. -/
theorem ref_frame : quiescent_ReferenceIdeal := fun m g _ =>
  (θ_run ReferenceIdeal.defs _ _).mono (fun r h => ⟨fun c => (h c).2, sem_eq_zero_of_no_sems (by decide) r.2⟩) (ReferenceIdeal.Value.run m g)

/-- The same where the precondition holds. -/
theorem ref_frame_pre : quiescent_ReferenceIdeal_pre_finite_weights_causal_masks := fun m g _ => ref_frame m g trivial

end Cert.Assemble
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Assemble
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.PreRead.facts,
  fun m ρ _ => Cert.Kernel.Gen.frame m ρ, fun m ρ _ => Cert.KernelIdeal.Gen.frame m ρ, fun m ρ _ => Cert.KernelIdeal.Gen.frame m ρ,
  Cert.Assemble.ref_frame, Cert.Assemble.ref_frame_pre,
  ⟨IdealRules.named_const.statement Cert.KernelIdeal.κ "unmask" .f32 0x4E6E6B28#32 ⊤ rfl,
    IdealRules.named_const.statement Cert.KernelIdeal.κ "mask" .f32 0xCE6E6B28#32 ⊥ rfl⟩,
  Cert.Assemble.algebraic⟩

end Cert.Proof

end
